-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_zero_one [hPre_zero_one : Cert.Pre_zero_one.Facts] (m : (ℓ : Loc Cert.KernelIdeal.nD Cert.KernelIdeal.τ Cert.KernelIdeal.sig) → Buf (Elt Ideal) ℓ) : Prop :=
  ∀ c : Dev Cert.KernelIdeal.nD,
    (Cert.Pre_zero_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_one [hPre_zero_one : Cert.Pre_zero_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_zero_one [hKernelIdeal : Cert.KernelIdeal.Facts] [hPre_zero_one : Cert.Pre_zero_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_one m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_zero_one [hReferenceIdeal : Cert.ReferenceIdeal.Facts] [hPre_zero_one : Cert.Pre_zero_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_zero_one [hKernelIdeal : Cert.KernelIdeal.Facts] [hReferenceIdeal : Cert.ReferenceIdeal.Facts] [hPre_zero_one : Cert.Pre_zero_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_zero_one : Cert.Pre_zero_one.Facts),
    quiescent_Kernel (hKernel := hKernel) (hPre_in_range := hPre_in_range)
    ∧ quiescent_KernelIdeal (hKernelIdeal := hKernelIdeal) (hPre_in_range := hPre_in_range)
    ∧ quiescent_KernelIdeal_pre_zero_one (hKernelIdeal := hKernelIdeal) (hPre_zero_one := hPre_zero_one)
    ∧ quiescent_ReferenceIdeal (hReferenceIdeal := hReferenceIdeal)
    ∧ quiescent_ReferenceIdeal_pre_zero_one (hReferenceIdeal := hReferenceIdeal) (hPre_zero_one := hPre_zero_one)
    ∧ preserves_Kernel_KernelIdeal
    ∧ algebraic_KernelIdeal_ReferenceIdeal_pre_zero_one (hKernelIdeal := hKernelIdeal) (hReferenceIdeal := hReferenceIdeal) (hPre_zero_one := hPre_zero_one)
-- ==== Pre_in_range.lean ====
abbrev S32x2048x256 : Shape := ⟨3, ![32, 2048, 256]⟩
abbrev S64x4 : Shape := ⟨2, ![64, 4]⟩
abbrev S_ : Shape := ⟨0, ![]⟩

class Facts : Prop where
  bcast_S_S64x4 : S_.BroadcastsInDim S64x4 (![] : Fin 0 → Fin S64x4.rank)
  reducesTo_S64x4_S_d0_1 : S64x4.ReducesTo [0, 1] S_
  h_S_ : 0 < S_.numel

variable [Facts]

def fn {F : FTy → Type} [FloatOps F] (main_arg0 : FVec F S32x2048x256 .f32) (main_arg1 : IVec S64x4 32) (main_arg2 : FVec F S64x4 .f32) : IVec S_ 1 :=
  let main_c : IVec S_ 32 := constantI S_ 32 0#32
  let main_v0 : IVec S64x4 32 := broadcastInDim S64x4 ![] bcast_S_S64x4 main_c
  let main_v1 : IVec S64x4 1 := cmpi .sge main_arg1 main_v0
  let main_c_0 : IVec S_ 32 := constantI S_ 32 256#32
  let main_v2 : IVec S64x4 32 := broadcastInDim S64x4 ![] bcast_S_S64x4 main_c_0
  let main_v3 : IVec S64x4 1 := cmpi .slt main_arg1 main_v2
  let main_v4 : IVec S64x4 1 := andi main_v1 main_v3
  let main_c_1 : IVec S_ 1 := constantI S_ 1 1#1
  let main_v5 : IVec S_ 1 := (fun x v => Host.reduce IntOp.andi x v reducesTo_S64x4_S_d0_1 h_S_) main_v4 main_c_1
  main_v5
-- ==== Pre_zero_one.lean ====
abbrev S32x2048x256 : Shape := ⟨3, ![32, 2048, 256]⟩
abbrev S64x4 : Shape := ⟨2, ![64, 4]⟩
abbrev S_ : Shape := ⟨0, ![]⟩
abbrev S4 : Shape := ⟨1, ![4]⟩

class Facts : Prop where
  bcast_S_S64x4 : S_.BroadcastsInDim S64x4 (![] : Fin 0 → Fin S64x4.rank)
  reducesTo_S64x4_S_d0_1 : S64x4.ReducesTo [0, 1] S_
  h_S_ : 0 < S_.numel
  reducesTo_S64x4_S4_d0 : S64x4.ReducesTo [0] S4
  reducesTo_S4_S_d0 : S4.ReducesTo [0] S_

variable [Facts]

def fn_part1 {F : FTy → Type} [FloatOps F] (main_v12 : IVec S_ 1) (main_v15 : IVec S4 1) : IVec S_ 1 :=
  let main_c_6 : IVec S_ 1 := constantI S_ 1 1#1
  let main_v16 : IVec S_ 1 := (fun x v => Host.reduce IntOp.andi x v reducesTo_S4_S_d0 h_S_) main_v15 main_c_6
  let main_v17 : IVec S_ 1 := andi main_v12 main_v16
  main_v17

def fn {F : FTy → Type} [FloatOps F] (main_arg0 : FVec F S32x2048x256 .f32) (main_arg1 : IVec S64x4 32) (main_arg2 : FVec F S64x4 .f32) : IVec S_ 1 :=
  let main_c : IVec S_ 32 := constantI S_ 32 0#32
  let main_v0 : IVec S64x4 32 := broadcastInDim S64x4 ![] bcast_S_S64x4 main_c
  let main_v1 : IVec S64x4 1 := cmpi .sge main_arg1 main_v0
  let main_c_0 : IVec S_ 32 := constantI S_ 32 256#32
  let main_v2 : IVec S64x4 32 := broadcastInDim S64x4 ![] bcast_S_S64x4 main_c_0
  let main_v3 : IVec S64x4 1 := cmpi .slt main_arg1 main_v2
  let main_v4 : IVec S64x4 1 := andi main_v1 main_v3
  let main_c_1 : IVec S_ 1 := constantI S_ 1 1#1
  let main_v5 : IVec S_ 1 := (fun x v => Host.reduce IntOp.andi x v reducesTo_S64x4_S_d0_1 h_S_) main_v4 main_c_1
  let main_cst : FVec F S_ .f32 := constant S_ .f32 0x00000000#32
  let main_v6 : FVec F S64x4 .f32 := broadcastInDim S64x4 ![] bcast_S_S64x4 main_cst
  let main_v7 : IVec S64x4 1 := cmpf .oeq main_arg2 main_v6
  let main_cst_2 : FVec F S_ .f32 := constant S_ .f32 0x3F800000#32
  let main_v8 : FVec F S64x4 .f32 := broadcastInDim S64x4 ![] bcast_S_S64x4 main_cst_2
  let main_v9 : IVec S64x4 1 := cmpf .oeq main_arg2 main_v8
  let main_v10 : IVec S64x4 1 := ori main_v7 main_v9
  let main_c_3 : IVec S_ 1 := constantI S_ 1 1#1
  let main_v11 : IVec S_ 1 := (fun x v => Host.reduce IntOp.andi x v reducesTo_S64x4_S_d0_1 h_S_) main_v10 main_c_3
  let main_v12 : IVec S_ 1 := andi main_v5 main_v11
  let main_cst_4 : FVec F S_ .f32 := constant S_ .f32 0x3F800000#32
  let main_v13 : FVec F S64x4 .f32 := broadcastInDim S64x4 ![] bcast_S_S64x4 main_cst_4
  let main_v14 : IVec S64x4 1 := cmpf .oeq main_arg2 main_v13
  let main_c_5 : IVec S_ 1 := constantI S_ 1 0#1
  let main_v15 : IVec S4 1 := (fun x v => Host.reduce IntOp.ori x v reducesTo_S64x4_S4_d0 h_S_) main_v14 main_c_5
  fn_part1 (F := F) main_v12 main_v15
-- ==== Kernel.lean ====
abbrev S32x2048x256 : Shape := ⟨3, ![32, 2048, 256]⟩
abbrev S64x4 : Shape := ⟨2, ![64, 4]⟩
abbrev S_ : Shape := ⟨0, ![]⟩
abbrev S4 : Shape := ⟨1, ![4]⟩
abbrev S1x4 : Shape := ⟨2, ![1, 4]⟩
abbrev S1x4x1 : Shape := ⟨3, ![1, 4, 1]⟩
abbrev S1 : Shape := ⟨1, ![1]⟩
abbrev S1x1x1 : Shape := ⟨3, ![1, 1, 1]⟩
abbrev S256 : Shape := ⟨1, ![256]⟩
abbrev S16x16 : Shape := ⟨2, ![16, 16]⟩
abbrev S16 : Shape := ⟨1, ![16]⟩
abbrev S65536x256 : Shape := ⟨2, ![65536, 256]⟩
abbrev S262144 : Shape := ⟨1, ![262144]⟩
abbrev S128x256 : Shape := ⟨2, ![128, 256]⟩
abbrev S512 : Shape := ⟨1, ![512]⟩
abbrev S8 : Shape := ⟨1, ![8]⟩
abbrev S12 : Shape := ⟨1, ![12]⟩
abbrev S32x2048x4 : Shape := ⟨3, ![32, 2048, 4]⟩

abbrev nBuf : Table → Nat
  | .hbm => 52
  | .local .scVector .vmem => 6
  | _ => 0

abbrev bufTy : (tb : Table) → Fin (nBuf tb) → BufTy
  | .hbm, ⟨0, _⟩ => ⟨S32x2048x256, .f32⟩
  | .hbm, ⟨1, _⟩ => ⟨S64x4, .i32⟩
  | .hbm, ⟨2, _⟩ => ⟨S64x4, .f32⟩
  | .hbm, ⟨3, _⟩ => ⟨S64x4, .i32⟩
  | .hbm, ⟨4, _⟩ => ⟨S_, .f32⟩
  | .hbm, ⟨5, _⟩ => ⟨S_, .i32⟩
  | .hbm, ⟨6, _⟩ => ⟨S4, .f32⟩
  | .hbm, ⟨7, _⟩ => ⟨S4, .i32⟩
  | .hbm, ⟨8, _⟩ => ⟨S1x4, .i32⟩
  | .hbm, ⟨9, _⟩ => ⟨S_, .i32⟩
  | .hbm, ⟨10, _⟩ => ⟨S1x4, .i32⟩
  | .hbm, ⟨11, _⟩ => ⟨S1x4, .i1⟩
  | .hbm, ⟨12, _⟩ => ⟨S_, .i32⟩
  | .hbm, ⟨13, _⟩ => ⟨S1x4, .i32⟩
  | .hbm, ⟨14, _⟩ => ⟨S1x4, .i32⟩
  | .hbm, ⟨15, _⟩ => ⟨S1x4, .i32⟩
  | .hbm, ⟨16, _⟩ => ⟨S1x4x1, .i32⟩
  | .hbm, ⟨17, _⟩ => ⟨S1, .i32⟩
  | .hbm, ⟨18, _⟩ => ⟨S_, .i32⟩
  | .hbm, ⟨19, _⟩ => ⟨S1x4x1, .i32⟩
  | .hbm, ⟨20, _⟩ => ⟨S1x4x1, .i1⟩
  | .hbm, ⟨21, _⟩ => ⟨S1x1x1, .i32⟩
  | .hbm, ⟨22, _⟩ => ⟨S1x4x1, .i32⟩
  | .hbm, ⟨23, _⟩ => ⟨S1x4x1, .i1⟩
  | .hbm, ⟨24, _⟩ => ⟨S1x4x1, .i1⟩
  | .hbm, ⟨25, _⟩ => ⟨S_, .i1⟩
  | .hbm, ⟨26, _⟩ => ⟨S1x4, .i1⟩
  | .hbm, ⟨27, _⟩ => ⟨S1x4, .i32⟩
  | .hbm, ⟨28, _⟩ => ⟨S_, .i32⟩
  | .hbm, ⟨29, _⟩ => ⟨S1x4, .i32⟩
  | .hbm, ⟨30, _⟩ => ⟨S1x4, .i32⟩
  | .hbm, ⟨31, _⟩ => ⟨S_, .f32⟩
  | .hbm, ⟨32, _⟩ => ⟨S64x4, .f32⟩
  | .hbm, ⟨33, _⟩ => ⟨S64x4, .i1⟩
  | .hbm, ⟨34, _⟩ => ⟨S64x4, .i32⟩
  | .hbm, ⟨35, _⟩ => ⟨S64x4, .i32⟩
  | .hbm, ⟨36, _⟩ => ⟨S256, .i32⟩
  | .hbm, ⟨37, _⟩ => ⟨S16x16, .f32⟩
  | .hbm, ⟨38, _⟩ => ⟨S_, .f32⟩
  | .hbm, ⟨39, _⟩ => ⟨S16x16, .f32⟩
  | .hbm, ⟨40, _⟩ => ⟨S16x16, .i1⟩
  | .hbm, ⟨41, _⟩ => ⟨S_, .i1⟩
  | .hbm, ⟨42, _⟩ => ⟨S16, .i1⟩
  | .hbm, ⟨43, _⟩ => ⟨S_, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S16, .f32⟩
  | .hbm, ⟨49, _⟩ => ⟨S65536x256, .f32⟩
  | .hbm, ⟨50, _⟩ => ⟨S262144, .f32⟩
  | .hbm, ⟨51, _⟩ => ⟨S32x2048x4, .f32⟩
  | .local .scVector .vmem, ⟨0, _⟩ => ⟨S128x256, .f32⟩
  | .local .scVector .vmem, ⟨1, _⟩ => ⟨S128x256, .f32⟩
  | .local .scVector .vmem, ⟨2, _⟩ => ⟨S512, .f32⟩
  | .local .scVector .vmem, ⟨3, _⟩ => ⟨S512, .f32⟩
  | .local .scVector .vmem, ⟨4, _⟩ => ⟨S256, .i32⟩
  | .local .scVector .vmem, ⟨5, _⟩ => ⟨S16, .f32⟩
  | _, _ => ⟨S32x2048x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_c : Ref sig .tc := ⟨.hbm, 5, rfl⟩
abbrev main_call0_v1_0 : Ref sig .tc := ⟨.hbm, 6, rfl⟩
abbrev main_v0 : Ref sig .tc := ⟨.hbm, 7, rfl⟩
abbrev main_v1 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_c_4 : Ref sig .tc := ⟨.hbm, 28, rfl⟩
abbrev main_call1_v14 : Ref sig .tc := ⟨.hbm, 29, rfl⟩
abbrev main_v2 : Ref sig .tc := ⟨.hbm, 30, rfl⟩
abbrev main_cst : Ref sig .tc := ⟨.hbm, 31, rfl⟩
abbrev main_v3 : Ref sig .tc := ⟨.hbm, 32, rfl⟩
abbrev main_v4 : Ref sig .tc := ⟨.hbm, 33, rfl⟩
abbrev main_call2_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_0 : Ref sig .tc := ⟨.hbm, 38, rfl⟩
abbrev main_v8 : Ref sig .tc := ⟨.hbm, 39, rfl⟩
abbrev main_v9 : Ref sig .tc := ⟨.hbm, 40, rfl⟩
abbrev main_c : Ref sig .tc := ⟨.hbm, 41, rfl⟩
abbrev main_v10 : Ref sig .tc := ⟨.hbm, 42, rfl⟩
abbrev main_cst_1 : Ref sig .tc := ⟨.hbm, 43, rfl⟩
abbrev main_cst_2 : Ref sig .tc := ⟨.hbm, 44, rfl⟩
abbrev main_call3_v0 : Ref sig .tc := ⟨.hbm, 45, rfl⟩
abbrev main_call3_v1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v13_scv : Ref sig .scVector := ⟨.hbm, 49, rfl⟩
abbrev main_v6_scv : Ref sig .scVector := ⟨.hbm, 36, rfl⟩
abbrev main_v12_scv : Ref sig .scVector := ⟨.hbm, 48, rfl⟩
abbrev main_v14_scv : Ref sig .scVector := ⟨.hbm, 50, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v22 : BitVec 32 := Scalar.muli v1 c2048_i32
  let v23 : BitVec 32 := Scalar.addi v22 c0_i32
  let c0_i32_1 : BitVec 32 := 0#32
  ![v23.toNat, 0]
@[reducible] def k0_t1_loop : Scf.Loop 32 :=
  let c0_i32_8 : BitVec 32 := 0#32
  let c128_i32_9 : BitVec 32 := 128#32
  let v31 : BitVec 32 := Scalar.addi c0_i32_8 c128_i32_9
  let c1_i32 : BitVec 32 := 1#32
  ⟨c0_i32_8, v31, c1_i32⟩

def k0_chk1 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx1_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw1 => k0_hw1.1
theorem k0_idx2_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw1 => k0_hw1.2.1
theorem k0_idx3_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw1 => k0_hw1.2.2.1
theorem k0_idx4_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw1 => k0_hw1.2.2.2.1
theorem k0_idx5_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw1 => k0_hw1.2.2.2.2.1
theorem k0_idx6_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw1 => k0_hw1.2.2.2.2.2.1
theorem k0_idx7_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw1 => k0_hw1.2.2.2.2.2.2.1
theorem k0_idx8_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw1 => k0_hw1.2.2.2.2.2.2.2.1
theorem k0_idx9_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw1 => k0_hw1.2.2.2.2.2.2.2.2.1
theorem k0_idx10_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw1 => k0_hw1.2.2.2.2.2.2.2.2.2.1
theorem k0_idx11_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw1 => k0_hw1.2.2.2.2.2.2.2.2.2.2.1
theorem k0_idx12_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw1 => k0_hw1.2.2.2.2.2.2.2.2.2.2.2.1
theorem k0_idx13_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw1 => k0_hw1.2.2.2.2.2.2.2.2.2.2.2.2.1
theorem k0_idx14_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw1 => k0_hw1.2.2.2.2.2.2.2.2.2.2.2.2.2.1
theorem k0_idx15_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw1 => k0_hw1.2.2.2.2.2.2.2.2.2.2.2.2.2.2.1
theorem k0_idx16_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw1 : k0_chk1 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw1 => k0_hw1.2.2.2.2.2.2.2.2.2.2.2.2.2.2.2

def k0_chk2 (v276 : IVec S16 32) : Prop :=
  (∀ a x, ((![v276] : Fin 1 → IVec S16 32) a x).toNat < S512.size a)
theorem k0_idx17_inb : ∀ (v276 : IVec S16 32) (k0_hw2 : k0_chk2 v276), ∀ a x, ((![v276] : Fin 1 → IVec S16 32) a x).toNat < S512.size a := fun v276 k0_hw2 => k0_hw2
def k0_off2 (i : grid0.Coords) (c0_i32_11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v22 : BitVec 32 := Scalar.muli v1 c2048_i32
  let v33 : BitVec 32 := Scalar.addi v22 c0_i32_11
  let c4_i32_12 : BitVec 32 := 4#32
  let v34 : BitVec 32 := Scalar.muli v33 c4_i32_12
  ![v34.toNat]
def k0_off3 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v22 : BitVec 32 := Scalar.muli v1 c2048_i32
  let v28 : BitVec 32 := Scalar.addi v22 c128_i32
  let c0_i32_13 : BitVec 32 := 0#32
  ![v28.toNat, 0]
@[reducible] def k0_t2_loop : Scf.Loop 32 :=
  let c0_i32_18 : BitVec 32 := 0#32
  let c128_i32_19 : BitVec 32 := 128#32
  let v42 : BitVec 32 := Scalar.addi c0_i32_18 c128_i32_19
  let c1_i32_20 : BitVec 32 := 1#32
  ⟨c0_i32_18, v42, c1_i32_20⟩

def k0_chk3 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx18_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw3 => k0_hw3.1
theorem k0_idx19_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw3 => k0_hw3.2.1
theorem k0_idx20_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw3 => k0_hw3.2.2.1
theorem k0_idx21_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw3 => k0_hw3.2.2.2.1
theorem k0_idx22_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw3 => k0_hw3.2.2.2.2.1
theorem k0_idx23_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw3 => k0_hw3.2.2.2.2.2.1
theorem k0_idx24_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw3 => k0_hw3.2.2.2.2.2.2.1
theorem k0_idx25_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw3 => k0_hw3.2.2.2.2.2.2.2.1
theorem k0_idx26_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw3 => k0_hw3.2.2.2.2.2.2.2.2.1
theorem k0_idx27_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw3 => k0_hw3.2.2.2.2.2.2.2.2.2.1
theorem k0_idx28_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw3 => k0_hw3.2.2.2.2.2.2.2.2.2.2.1
theorem k0_idx29_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw3 => k0_hw3.2.2.2.2.2.2.2.2.2.2.2.1
theorem k0_idx30_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw3 => k0_hw3.2.2.2.2.2.2.2.2.2.2.2.2.1
theorem k0_idx31_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw3 => k0_hw3.2.2.2.2.2.2.2.2.2.2.2.2.2.1
theorem k0_idx32_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw3 => k0_hw3.2.2.2.2.2.2.2.2.2.2.2.2.2.2.1
theorem k0_idx33_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw3 : k0_chk3 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw3 => k0_hw3.2.2.2.2.2.2.2.2.2.2.2.2.2.2.2

def k0_chk4 (v276 : IVec S16 32) : Prop :=
  (∀ a x, ((![v276] : Fin 1 → IVec S16 32) a x).toNat < S512.size a)
theorem k0_idx34_inb : ∀ (v276 : IVec S16 32) (k0_hw4 : k0_chk4 v276), ∀ a x, ((![v276] : Fin 1 → IVec S16 32) a x).toNat < S512.size a := fun v276 k0_hw4 => k0_hw4
@[reducible] def k0_t3_loop : Scf.Loop 32 :=
  let c0_i32_29 : BitVec 32 := 0#32
  let c128_i32_30 : BitVec 32 := 128#32
  let v55 : BitVec 32 := Scalar.addi c0_i32_29 c128_i32_30
  let c1_i32_31 : BitVec 32 := 1#32
  ⟨c0_i32_29, v55, c1_i32_31⟩

def k0_chk5 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx35_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw5 => k0_hw5.1
theorem k0_idx36_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw5 => k0_hw5.2.1
theorem k0_idx37_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw5 => k0_hw5.2.2.1
theorem k0_idx38_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw5 => k0_hw5.2.2.2.1
theorem k0_idx39_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw5 => k0_hw5.2.2.2.2.1
theorem k0_idx40_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw5 => k0_hw5.2.2.2.2.2.1
theorem k0_idx41_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw5 => k0_hw5.2.2.2.2.2.2.1
theorem k0_idx42_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw5 => k0_hw5.2.2.2.2.2.2.2.1
theorem k0_idx43_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw5 => k0_hw5.2.2.2.2.2.2.2.2.1
theorem k0_idx44_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw5 => k0_hw5.2.2.2.2.2.2.2.2.2.1
theorem k0_idx45_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw5 => k0_hw5.2.2.2.2.2.2.2.2.2.2.1
theorem k0_idx46_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw5 => k0_hw5.2.2.2.2.2.2.2.2.2.2.2.1
theorem k0_idx47_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw5 => k0_hw5.2.2.2.2.2.2.2.2.2.2.2.2.1
theorem k0_idx48_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw5 => k0_hw5.2.2.2.2.2.2.2.2.2.2.2.2.2.1
theorem k0_idx49_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw5 => k0_hw5.2.2.2.2.2.2.2.2.2.2.2.2.2.2.1
theorem k0_idx50_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw5 : k0_chk5 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw5 => k0_hw5.2.2.2.2.2.2.2.2.2.2.2.2.2.2.2

def k0_chk6 (v276 : IVec S16 32) : Prop :=
  (∀ a x, ((![v276] : Fin 1 → IVec S16 32) a x).toNat < S512.size a)
theorem k0_idx51_inb : ∀ (v276 : IVec S16 32) (k0_hw6 : k0_chk6 v276), ∀ a x, ((![v276] : Fin 1 → IVec S16 32) a x).toNat < S512.size a := fun v276 k0_hw6 => k0_hw6
@[reducible] def k0_t4_loop : Scf.Loop 32 :=
  let c0_i32_40 : BitVec 32 := 0#32
  let c128_i32_41 : BitVec 32 := 128#32
  let v68 : BitVec 32 := Scalar.addi c0_i32_40 c128_i32_41
  let c1_i32_42 : BitVec 32 := 1#32
  ⟨c0_i32_40, v68, c1_i32_42⟩

def k0_chk7 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx52_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw7 => k0_hw7.1
theorem k0_idx53_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw7 => k0_hw7.2.1
theorem k0_idx54_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw7 => k0_hw7.2.2.1
theorem k0_idx55_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw7 => k0_hw7.2.2.2.1
theorem k0_idx56_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw7 => k0_hw7.2.2.2.2.1
theorem k0_idx57_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw7 => k0_hw7.2.2.2.2.2.1
theorem k0_idx58_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw7 => k0_hw7.2.2.2.2.2.2.1
theorem k0_idx59_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw7 => k0_hw7.2.2.2.2.2.2.2.1
theorem k0_idx60_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw7 => k0_hw7.2.2.2.2.2.2.2.2.1
theorem k0_idx61_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw7 => k0_hw7.2.2.2.2.2.2.2.2.2.1
theorem k0_idx62_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw7 => k0_hw7.2.2.2.2.2.2.2.2.2.2.1
theorem k0_idx63_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw7 => k0_hw7.2.2.2.2.2.2.2.2.2.2.2.1
theorem k0_idx64_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw7 => k0_hw7.2.2.2.2.2.2.2.2.2.2.2.2.1
theorem k0_idx65_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw7 => k0_hw7.2.2.2.2.2.2.2.2.2.2.2.2.2.1
theorem k0_idx66_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw7 => k0_hw7.2.2.2.2.2.2.2.2.2.2.2.2.2.2.1
theorem k0_idx67_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw7 : k0_chk7 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw7 => k0_hw7.2.2.2.2.2.2.2.2.2.2.2.2.2.2.2

def k0_chk8 (v276 : IVec S16 32) : Prop :=
  (∀ a x, ((![v276] : Fin 1 → IVec S16 32) a x).toNat < S512.size a)
theorem k0_idx68_inb : ∀ (v276 : IVec S16 32) (k0_hw8 : k0_chk8 v276), ∀ a x, ((![v276] : Fin 1 → IVec S16 32) a x).toNat < S512.size a := fun v276 k0_hw8 => k0_hw8
@[reducible] def k0_t5_loop : Scf.Loop 32 :=
  let c0_i32_51 : BitVec 32 := 0#32
  let c128_i32_52 : BitVec 32 := 128#32
  let v81 : BitVec 32 := Scalar.addi c0_i32_51 c128_i32_52
  let c1_i32_53 : BitVec 32 := 1#32
  ⟨c0_i32_51, v81, c1_i32_53⟩

def k0_chk9 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx69_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw9 => k0_hw9.1
theorem k0_idx70_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw9 => k0_hw9.2.1
theorem k0_idx71_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw9 => k0_hw9.2.2.1
theorem k0_idx72_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw9 => k0_hw9.2.2.2.1
theorem k0_idx73_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw9 => k0_hw9.2.2.2.2.1
theorem k0_idx74_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw9 => k0_hw9.2.2.2.2.2.1
theorem k0_idx75_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw9 => k0_hw9.2.2.2.2.2.2.1
theorem k0_idx76_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw9 => k0_hw9.2.2.2.2.2.2.2.1
theorem k0_idx77_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw9 => k0_hw9.2.2.2.2.2.2.2.2.1
theorem k0_idx78_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw9 => k0_hw9.2.2.2.2.2.2.2.2.2.1
theorem k0_idx79_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw9 => k0_hw9.2.2.2.2.2.2.2.2.2.2.1
theorem k0_idx80_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw9 => k0_hw9.2.2.2.2.2.2.2.2.2.2.2.1
theorem k0_idx81_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw9 => k0_hw9.2.2.2.2.2.2.2.2.2.2.2.2.1
theorem k0_idx82_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw9 => k0_hw9.2.2.2.2.2.2.2.2.2.2.2.2.2.1
theorem k0_idx83_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw9 => k0_hw9.2.2.2.2.2.2.2.2.2.2.2.2.2.2.1
theorem k0_idx84_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw9 : k0_chk9 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw9 => k0_hw9.2.2.2.2.2.2.2.2.2.2.2.2.2.2.2

def k0_chk10 (v276 : IVec S16 32) : Prop :=
  (∀ a x, ((![v276] : Fin 1 → IVec S16 32) a x).toNat < S512.size a)
theorem k0_idx85_inb : ∀ (v276 : IVec S16 32) (k0_hw10 : k0_chk10 v276), ∀ a x, ((![v276] : Fin 1 → IVec S16 32) a x).toNat < S512.size a := fun v276 k0_hw10 => k0_hw10
@[reducible] def k0_t6_loop : Scf.Loop 32 :=
  let c0_i32_62 : BitVec 32 := 0#32
  let c128_i32_63 : BitVec 32 := 128#32
  let v94 : BitVec 32 := Scalar.addi c0_i32_62 c128_i32_63
  let c1_i32_64 : BitVec 32 := 1#32
  ⟨c0_i32_62, v94, c1_i32_64⟩

def k0_chk11 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx86_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw11 => k0_hw11.1
theorem k0_idx87_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw11 => k0_hw11.2.1
theorem k0_idx88_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw11 => k0_hw11.2.2.1
theorem k0_idx89_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw11 => k0_hw11.2.2.2.1
theorem k0_idx90_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw11 => k0_hw11.2.2.2.2.1
theorem k0_idx91_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw11 => k0_hw11.2.2.2.2.2.1
theorem k0_idx92_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw11 => k0_hw11.2.2.2.2.2.2.1
theorem k0_idx93_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw11 => k0_hw11.2.2.2.2.2.2.2.1
theorem k0_idx94_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw11 => k0_hw11.2.2.2.2.2.2.2.2.1
theorem k0_idx95_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw11 => k0_hw11.2.2.2.2.2.2.2.2.2.1
theorem k0_idx96_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw11 => k0_hw11.2.2.2.2.2.2.2.2.2.2.1
theorem k0_idx97_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw11 => k0_hw11.2.2.2.2.2.2.2.2.2.2.2.1
theorem k0_idx98_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw11 => k0_hw11.2.2.2.2.2.2.2.2.2.2.2.2.1
theorem k0_idx99_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw11 => k0_hw11.2.2.2.2.2.2.2.2.2.2.2.2.2.1
theorem k0_idx100_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw11 => k0_hw11.2.2.2.2.2.2.2.2.2.2.2.2.2.2.1
theorem k0_idx101_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw11 : k0_chk11 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw11 => k0_hw11.2.2.2.2.2.2.2.2.2.2.2.2.2.2.2

def k0_chk12 (v276 : IVec S16 32) : Prop :=
  (∀ a x, ((![v276] : Fin 1 → IVec S16 32) a x).toNat < S512.size a)
theorem k0_idx102_inb : ∀ (v276 : IVec S16 32) (k0_hw12 : k0_chk12 v276), ∀ a x, ((![v276] : Fin 1 → IVec S16 32) a x).toNat < S512.size a := fun v276 k0_hw12 => k0_hw12
@[reducible] def k0_t7_loop : Scf.Loop 32 :=
  let c0_i32_73 : BitVec 32 := 0#32
  let c128_i32_74 : BitVec 32 := 128#32
  let v107 : BitVec 32 := Scalar.addi c0_i32_73 c128_i32_74
  let c1_i32_75 : BitVec 32 := 1#32
  ⟨c0_i32_73, v107, c1_i32_75⟩

def k0_chk13 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx103_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw13 => k0_hw13.1
theorem k0_idx104_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw13 => k0_hw13.2.1
theorem k0_idx105_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw13 => k0_hw13.2.2.1
theorem k0_idx106_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw13 => k0_hw13.2.2.2.1
theorem k0_idx107_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw13 => k0_hw13.2.2.2.2.1
theorem k0_idx108_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw13 => k0_hw13.2.2.2.2.2.1
theorem k0_idx109_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw13 => k0_hw13.2.2.2.2.2.2.1
theorem k0_idx110_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw13 => k0_hw13.2.2.2.2.2.2.2.1
theorem k0_idx111_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw13 => k0_hw13.2.2.2.2.2.2.2.2.1
theorem k0_idx112_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw13 => k0_hw13.2.2.2.2.2.2.2.2.2.1
theorem k0_idx113_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw13 => k0_hw13.2.2.2.2.2.2.2.2.2.2.1
theorem k0_idx114_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw13 => k0_hw13.2.2.2.2.2.2.2.2.2.2.2.1
theorem k0_idx115_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw13 => k0_hw13.2.2.2.2.2.2.2.2.2.2.2.2.1
theorem k0_idx116_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw13 => k0_hw13.2.2.2.2.2.2.2.2.2.2.2.2.2.1
theorem k0_idx117_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw13 => k0_hw13.2.2.2.2.2.2.2.2.2.2.2.2.2.2.1
theorem k0_idx118_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw13 : k0_chk13 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw13 => k0_hw13.2.2.2.2.2.2.2.2.2.2.2.2.2.2.2

def k0_chk14 (v276 : IVec S16 32) : Prop :=
  (∀ a x, ((![v276] : Fin 1 → IVec S16 32) a x).toNat < S512.size a)
theorem k0_idx119_inb : ∀ (v276 : IVec S16 32) (k0_hw14 : k0_chk14 v276), ∀ a x, ((![v276] : Fin 1 → IVec S16 32) a x).toNat < S512.size a := fun v276 k0_hw14 => k0_hw14
@[reducible] def k0_t8_loop : Scf.Loop 32 :=
  let c0_i32_84 : BitVec 32 := 0#32
  let c128_i32_85 : BitVec 32 := 128#32
  let v120 : BitVec 32 := Scalar.addi c0_i32_84 c128_i32_85
  let c1_i32_86 : BitVec 32 := 1#32
  ⟨c0_i32_84, v120, c1_i32_86⟩

def k0_chk15 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx120_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw15 => k0_hw15.1
theorem k0_idx121_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw15 => k0_hw15.2.1
theorem k0_idx122_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw15 => k0_hw15.2.2.1
theorem k0_idx123_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw15 => k0_hw15.2.2.2.1
theorem k0_idx124_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw15 => k0_hw15.2.2.2.2.1
theorem k0_idx125_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw15 => k0_hw15.2.2.2.2.2.1
theorem k0_idx126_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw15 => k0_hw15.2.2.2.2.2.2.1
theorem k0_idx127_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw15 => k0_hw15.2.2.2.2.2.2.2.1
theorem k0_idx128_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw15 => k0_hw15.2.2.2.2.2.2.2.2.1
theorem k0_idx129_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw15 => k0_hw15.2.2.2.2.2.2.2.2.2.1
theorem k0_idx130_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw15 => k0_hw15.2.2.2.2.2.2.2.2.2.2.1
theorem k0_idx131_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw15 => k0_hw15.2.2.2.2.2.2.2.2.2.2.2.1
theorem k0_idx132_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw15 => k0_hw15.2.2.2.2.2.2.2.2.2.2.2.2.1
theorem k0_idx133_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw15 => k0_hw15.2.2.2.2.2.2.2.2.2.2.2.2.2.1
theorem k0_idx134_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw15 => k0_hw15.2.2.2.2.2.2.2.2.2.2.2.2.2.2.1
theorem k0_idx135_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw15 : k0_chk15 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw15 => k0_hw15.2.2.2.2.2.2.2.2.2.2.2.2.2.2.2

def k0_chk16 (v276 : IVec S16 32) : Prop :=
  (∀ a x, ((![v276] : Fin 1 → IVec S16 32) a x).toNat < S512.size a)
theorem k0_idx136_inb : ∀ (v276 : IVec S16 32) (k0_hw16 : k0_chk16 v276), ∀ a x, ((![v276] : Fin 1 → IVec S16 32) a x).toNat < S512.size a := fun v276 k0_hw16 => k0_hw16
@[reducible] def k0_t9_loop : Scf.Loop 32 :=
  let c0_i32_95 : BitVec 32 := 0#32
  let c128_i32_96 : BitVec 32 := 128#32
  let v133 : BitVec 32 := Scalar.addi c0_i32_95 c128_i32_96
  let c1_i32_97 : BitVec 32 := 1#32
  ⟨c0_i32_95, v133, c1_i32_97⟩

def k0_chk17 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx137_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw17 => k0_hw17.1
theorem k0_idx138_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw17 => k0_hw17.2.1
theorem k0_idx139_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw17 => k0_hw17.2.2.1
theorem k0_idx140_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw17 => k0_hw17.2.2.2.1
theorem k0_idx141_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw17 => k0_hw17.2.2.2.2.1
theorem k0_idx142_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw17 => k0_hw17.2.2.2.2.2.1
theorem k0_idx143_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw17 => k0_hw17.2.2.2.2.2.2.1
theorem k0_idx144_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw17 => k0_hw17.2.2.2.2.2.2.2.1
theorem k0_idx145_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw17 => k0_hw17.2.2.2.2.2.2.2.2.1
theorem k0_idx146_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw17 => k0_hw17.2.2.2.2.2.2.2.2.2.1
theorem k0_idx147_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw17 => k0_hw17.2.2.2.2.2.2.2.2.2.2.1
theorem k0_idx148_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw17 => k0_hw17.2.2.2.2.2.2.2.2.2.2.2.1
theorem k0_idx149_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw17 => k0_hw17.2.2.2.2.2.2.2.2.2.2.2.2.1
theorem k0_idx150_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw17 => k0_hw17.2.2.2.2.2.2.2.2.2.2.2.2.2.1
theorem k0_idx151_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw17 => k0_hw17.2.2.2.2.2.2.2.2.2.2.2.2.2.2.1
theorem k0_idx152_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw17 : k0_chk17 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw17 => k0_hw17.2.2.2.2.2.2.2.2.2.2.2.2.2.2.2

def k0_chk18 (v276 : IVec S16 32) : Prop :=
  (∀ a x, ((![v276] : Fin 1 → IVec S16 32) a x).toNat < S512.size a)
theorem k0_idx153_inb : ∀ (v276 : IVec S16 32) (k0_hw18 : k0_chk18 v276), ∀ a x, ((![v276] : Fin 1 → IVec S16 32) a x).toNat < S512.size a := fun v276 k0_hw18 => k0_hw18
@[reducible] def k0_t10_loop : Scf.Loop 32 :=
  let c0_i32_106 : BitVec 32 := 0#32
  let c128_i32_107 : BitVec 32 := 128#32
  let v146 : BitVec 32 := Scalar.addi c0_i32_106 c128_i32_107
  let c1_i32_108 : BitVec 32 := 1#32
  ⟨c0_i32_106, v146, c1_i32_108⟩

def k0_chk19 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx154_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw19 => k0_hw19.1
theorem k0_idx155_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw19 => k0_hw19.2.1
theorem k0_idx156_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw19 => k0_hw19.2.2.1
theorem k0_idx157_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw19 => k0_hw19.2.2.2.1
theorem k0_idx158_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw19 => k0_hw19.2.2.2.2.1
theorem k0_idx159_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw19 => k0_hw19.2.2.2.2.2.1
theorem k0_idx160_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw19 => k0_hw19.2.2.2.2.2.2.1
theorem k0_idx161_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw19 => k0_hw19.2.2.2.2.2.2.2.1
theorem k0_idx162_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw19 => k0_hw19.2.2.2.2.2.2.2.2.1
theorem k0_idx163_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw19 => k0_hw19.2.2.2.2.2.2.2.2.2.1
theorem k0_idx164_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw19 => k0_hw19.2.2.2.2.2.2.2.2.2.2.1
theorem k0_idx165_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw19 => k0_hw19.2.2.2.2.2.2.2.2.2.2.2.1
theorem k0_idx166_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw19 => k0_hw19.2.2.2.2.2.2.2.2.2.2.2.2.1
theorem k0_idx167_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw19 => k0_hw19.2.2.2.2.2.2.2.2.2.2.2.2.2.1
theorem k0_idx168_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw19 => k0_hw19.2.2.2.2.2.2.2.2.2.2.2.2.2.2.1
theorem k0_idx169_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw19 : k0_chk19 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw19 => k0_hw19.2.2.2.2.2.2.2.2.2.2.2.2.2.2.2

def k0_chk20 (v276 : IVec S16 32) : Prop :=
  (∀ a x, ((![v276] : Fin 1 → IVec S16 32) a x).toNat < S512.size a)
theorem k0_idx170_inb : ∀ (v276 : IVec S16 32) (k0_hw20 : k0_chk20 v276), ∀ a x, ((![v276] : Fin 1 → IVec S16 32) a x).toNat < S512.size a := fun v276 k0_hw20 => k0_hw20
@[reducible] def k0_t11_loop : Scf.Loop 32 :=
  let c0_i32_117 : BitVec 32 := 0#32
  let c128_i32_118 : BitVec 32 := 128#32
  let v159 : BitVec 32 := Scalar.addi c0_i32_117 c128_i32_118
  let c1_i32_119 : BitVec 32 := 1#32
  ⟨c0_i32_117, v159, c1_i32_119⟩

def k0_chk21 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx171_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw21 => k0_hw21.1
theorem k0_idx172_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw21 => k0_hw21.2.1
theorem k0_idx173_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw21 => k0_hw21.2.2.1
theorem k0_idx174_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw21 => k0_hw21.2.2.2.1
theorem k0_idx175_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw21 => k0_hw21.2.2.2.2.1
theorem k0_idx176_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw21 => k0_hw21.2.2.2.2.2.1
theorem k0_idx177_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw21 => k0_hw21.2.2.2.2.2.2.1
theorem k0_idx178_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw21 => k0_hw21.2.2.2.2.2.2.2.1
theorem k0_idx179_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw21 => k0_hw21.2.2.2.2.2.2.2.2.1
theorem k0_idx180_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw21 => k0_hw21.2.2.2.2.2.2.2.2.2.1
theorem k0_idx181_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw21 => k0_hw21.2.2.2.2.2.2.2.2.2.2.1
theorem k0_idx182_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw21 => k0_hw21.2.2.2.2.2.2.2.2.2.2.2.1
theorem k0_idx183_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw21 => k0_hw21.2.2.2.2.2.2.2.2.2.2.2.2.1
theorem k0_idx184_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw21 => k0_hw21.2.2.2.2.2.2.2.2.2.2.2.2.2.1
theorem k0_idx185_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw21 => k0_hw21.2.2.2.2.2.2.2.2.2.2.2.2.2.2.1
theorem k0_idx186_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw21 : k0_chk21 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw21 => k0_hw21.2.2.2.2.2.2.2.2.2.2.2.2.2.2.2

def k0_chk22 (v276 : IVec S16 32) : Prop :=
  (∀ a x, ((![v276] : Fin 1 → IVec S16 32) a x).toNat < S512.size a)
theorem k0_idx187_inb : ∀ (v276 : IVec S16 32) (k0_hw22 : k0_chk22 v276), ∀ a x, ((![v276] : Fin 1 → IVec S16 32) a x).toNat < S512.size a := fun v276 k0_hw22 => k0_hw22
@[reducible] def k0_t12_loop : Scf.Loop 32 :=
  let c0_i32_128 : BitVec 32 := 0#32
  let c128_i32_129 : BitVec 32 := 128#32
  let v172 : BitVec 32 := Scalar.addi c0_i32_128 c128_i32_129
  let c1_i32_130 : BitVec 32 := 1#32
  ⟨c0_i32_128, v172, c1_i32_130⟩

def k0_chk23 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx188_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw23 => k0_hw23.1
theorem k0_idx189_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw23 => k0_hw23.2.1
theorem k0_idx190_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw23 => k0_hw23.2.2.1
theorem k0_idx191_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw23 => k0_hw23.2.2.2.1
theorem k0_idx192_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw23 => k0_hw23.2.2.2.2.1
theorem k0_idx193_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw23 => k0_hw23.2.2.2.2.2.1
theorem k0_idx194_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw23 => k0_hw23.2.2.2.2.2.2.1
theorem k0_idx195_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw23 => k0_hw23.2.2.2.2.2.2.2.1
theorem k0_idx196_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw23 => k0_hw23.2.2.2.2.2.2.2.2.1
theorem k0_idx197_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw23 => k0_hw23.2.2.2.2.2.2.2.2.2.1
theorem k0_idx198_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw23 => k0_hw23.2.2.2.2.2.2.2.2.2.2.1
theorem k0_idx199_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw23 => k0_hw23.2.2.2.2.2.2.2.2.2.2.2.1
theorem k0_idx200_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw23 => k0_hw23.2.2.2.2.2.2.2.2.2.2.2.2.1
theorem k0_idx201_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw23 => k0_hw23.2.2.2.2.2.2.2.2.2.2.2.2.2.1
theorem k0_idx202_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw23 => k0_hw23.2.2.2.2.2.2.2.2.2.2.2.2.2.2.1
theorem k0_idx203_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw23 : k0_chk23 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw23 => k0_hw23.2.2.2.2.2.2.2.2.2.2.2.2.2.2.2

def k0_chk24 (v276 : IVec S16 32) : Prop :=
  (∀ a x, ((![v276] : Fin 1 → IVec S16 32) a x).toNat < S512.size a)
theorem k0_idx204_inb : ∀ (v276 : IVec S16 32) (k0_hw24 : k0_chk24 v276), ∀ a x, ((![v276] : Fin 1 → IVec S16 32) a x).toNat < S512.size a := fun v276 k0_hw24 => k0_hw24
@[reducible] def k0_t13_loop : Scf.Loop 32 :=
  let c0_i32_139 : BitVec 32 := 0#32
  let c128_i32_140 : BitVec 32 := 128#32
  let v185 : BitVec 32 := Scalar.addi c0_i32_139 c128_i32_140
  let c1_i32_141 : BitVec 32 := 1#32
  ⟨c0_i32_139, v185, c1_i32_141⟩

def k0_chk25 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx205_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw25 => k0_hw25.1
theorem k0_idx206_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw25 => k0_hw25.2.1
theorem k0_idx207_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw25 => k0_hw25.2.2.1
theorem k0_idx208_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw25 => k0_hw25.2.2.2.1
theorem k0_idx209_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw25 => k0_hw25.2.2.2.2.1
theorem k0_idx210_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw25 => k0_hw25.2.2.2.2.2.1
theorem k0_idx211_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw25 => k0_hw25.2.2.2.2.2.2.1
theorem k0_idx212_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw25 => k0_hw25.2.2.2.2.2.2.2.1
theorem k0_idx213_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw25 => k0_hw25.2.2.2.2.2.2.2.2.1
theorem k0_idx214_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw25 => k0_hw25.2.2.2.2.2.2.2.2.2.1
theorem k0_idx215_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw25 => k0_hw25.2.2.2.2.2.2.2.2.2.2.1
theorem k0_idx216_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw25 => k0_hw25.2.2.2.2.2.2.2.2.2.2.2.1
theorem k0_idx217_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw25 => k0_hw25.2.2.2.2.2.2.2.2.2.2.2.2.1
theorem k0_idx218_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw25 => k0_hw25.2.2.2.2.2.2.2.2.2.2.2.2.2.1
theorem k0_idx219_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw25 => k0_hw25.2.2.2.2.2.2.2.2.2.2.2.2.2.2.1
theorem k0_idx220_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw25 : k0_chk25 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw25 => k0_hw25.2.2.2.2.2.2.2.2.2.2.2.2.2.2.2

def k0_chk26 (v276 : IVec S16 32) : Prop :=
  (∀ a x, ((![v276] : Fin 1 → IVec S16 32) a x).toNat < S512.size a)
theorem k0_idx221_inb : ∀ (v276 : IVec S16 32) (k0_hw26 : k0_chk26 v276), ∀ a x, ((![v276] : Fin 1 → IVec S16 32) a x).toNat < S512.size a := fun v276 k0_hw26 => k0_hw26
@[reducible] def k0_t14_loop : Scf.Loop 32 :=
  let c0_i32_150 : BitVec 32 := 0#32
  let c128_i32_151 : BitVec 32 := 128#32
  let v198 : BitVec 32 := Scalar.addi c0_i32_150 c128_i32_151
  let c1_i32_152 : BitVec 32 := 1#32
  ⟨c0_i32_150, v198, c1_i32_152⟩

def k0_chk27 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx222_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw27 => k0_hw27.1
theorem k0_idx223_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw27 => k0_hw27.2.1
theorem k0_idx224_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw27 => k0_hw27.2.2.1
theorem k0_idx225_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw27 => k0_hw27.2.2.2.1
theorem k0_idx226_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw27 => k0_hw27.2.2.2.2.1
theorem k0_idx227_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw27 => k0_hw27.2.2.2.2.2.1
theorem k0_idx228_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw27 => k0_hw27.2.2.2.2.2.2.1
theorem k0_idx229_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw27 => k0_hw27.2.2.2.2.2.2.2.1
theorem k0_idx230_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw27 => k0_hw27.2.2.2.2.2.2.2.2.1
theorem k0_idx231_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw27 => k0_hw27.2.2.2.2.2.2.2.2.2.1
theorem k0_idx232_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw27 => k0_hw27.2.2.2.2.2.2.2.2.2.2.1
theorem k0_idx233_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw27 => k0_hw27.2.2.2.2.2.2.2.2.2.2.2.1
theorem k0_idx234_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw27 => k0_hw27.2.2.2.2.2.2.2.2.2.2.2.2.1
theorem k0_idx235_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw27 => k0_hw27.2.2.2.2.2.2.2.2.2.2.2.2.2.1
theorem k0_idx236_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw27 => k0_hw27.2.2.2.2.2.2.2.2.2.2.2.2.2.2.1
theorem k0_idx237_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw27 : k0_chk27 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw27 => k0_hw27.2.2.2.2.2.2.2.2.2.2.2.2.2.2.2

def k0_chk28 (v276 : IVec S16 32) : Prop :=
  (∀ a x, ((![v276] : Fin 1 → IVec S16 32) a x).toNat < S512.size a)
theorem k0_idx238_inb : ∀ (v276 : IVec S16 32) (k0_hw28 : k0_chk28 v276), ∀ a x, ((![v276] : Fin 1 → IVec S16 32) a x).toNat < S512.size a := fun v276 k0_hw28 => k0_hw28
@[reducible] def k0_t15_loop : Scf.Loop 32 :=
  let c0_i32_161 : BitVec 32 := 0#32
  let c128_i32_162 : BitVec 32 := 128#32
  let v211 : BitVec 32 := Scalar.addi c0_i32_161 c128_i32_162
  let c1_i32_163 : BitVec 32 := 1#32
  ⟨c0_i32_161, v211, c1_i32_163⟩

def k0_chk29 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx239_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw29 => k0_hw29.1
theorem k0_idx240_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw29 => k0_hw29.2.1
theorem k0_idx241_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw29 => k0_hw29.2.2.1
theorem k0_idx242_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw29 => k0_hw29.2.2.2.1
theorem k0_idx243_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw29 => k0_hw29.2.2.2.2.1
theorem k0_idx244_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw29 => k0_hw29.2.2.2.2.2.1
theorem k0_idx245_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw29 => k0_hw29.2.2.2.2.2.2.1
theorem k0_idx246_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw29 => k0_hw29.2.2.2.2.2.2.2.1
theorem k0_idx247_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw29 => k0_hw29.2.2.2.2.2.2.2.2.1
theorem k0_idx248_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw29 => k0_hw29.2.2.2.2.2.2.2.2.2.1
theorem k0_idx249_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw29 => k0_hw29.2.2.2.2.2.2.2.2.2.2.1
theorem k0_idx250_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw29 => k0_hw29.2.2.2.2.2.2.2.2.2.2.2.1
theorem k0_idx251_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw29 => k0_hw29.2.2.2.2.2.2.2.2.2.2.2.2.1
theorem k0_idx252_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw29 => k0_hw29.2.2.2.2.2.2.2.2.2.2.2.2.2.1
theorem k0_idx253_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw29 => k0_hw29.2.2.2.2.2.2.2.2.2.2.2.2.2.2.1
theorem k0_idx254_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw29 : k0_chk29 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw29 => k0_hw29.2.2.2.2.2.2.2.2.2.2.2.2.2.2.2

def k0_chk30 (v276 : IVec S16 32) : Prop :=
  (∀ a x, ((![v276] : Fin 1 → IVec S16 32) a x).toNat < S512.size a)
theorem k0_idx255_inb : ∀ (v276 : IVec S16 32) (k0_hw30 : k0_chk30 v276), ∀ a x, ((![v276] : Fin 1 → IVec S16 32) a x).toNat < S512.size a := fun v276 k0_hw30 => k0_hw30
@[reducible] def k0_t16_loop : Scf.Loop 32 :=
  let c0_i32_170 : BitVec 32 := 0#32
  let c128_i32_171 : BitVec 32 := 128#32
  let v221 : BitVec 32 := Scalar.addi c0_i32_170 c128_i32_171
  let c1_i32_172 : BitVec 32 := 1#32
  ⟨c0_i32_170, v221, c1_i32_172⟩

def k0_chk31 (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) : Prop :=
  (∀ a x, ((![v231, v6] : Fin 2 → IVec S16 32) a x).toNat < S128x256.size a) ∧
  (∀ a x, ((![v231, v7] : Fin 2 → IVec S16 32) a x).toNat < S128x256.size a) ∧
  (∀ a x, ((![v231, v8] : Fin 2 → IVec S16 32) a x).toNat < S128x256.size a) ∧
  (∀ a x, ((![v231, v9] : Fin 2 → IVec S16 32) a x).toNat < S128x256.size a) ∧
  (∀ a x, ((![v231, v10] : Fin 2 → IVec S16 32) a x).toNat < S128x256.size a) ∧
  (∀ a x, ((![v231, v11] : Fin 2 → IVec S16 32) a x).toNat < S128x256.size a) ∧
  (∀ a x, ((![v231, v12] : Fin 2 → IVec S16 32) a x).toNat < S128x256.size a) ∧
  (∀ a x, ((![v231, v13] : Fin 2 → IVec S16 32) a x).toNat < S128x256.size a) ∧
  (∀ a x, ((![v231, v14] : Fin 2 → IVec S16 32) a x).toNat < S128x256.size a) ∧
  (∀ a x, ((![v231, v15] : Fin 2 → IVec S16 32) a x).toNat < S128x256.size a) ∧
  (∀ a x, ((![v231, v16] : Fin 2 → IVec S16 32) a x).toNat < S128x256.size a) ∧
  (∀ a x, ((![v231, v17] : Fin 2 → IVec S16 32) a x).toNat < S128x256.size a) ∧
  (∀ a x, ((![v231, v18] : Fin 2 → IVec S16 32) a x).toNat < S128x256.size a) ∧
  (∀ a x, ((![v231, v19] : Fin 2 → IVec S16 32) a x).toNat < S128x256.size a) ∧
  (∀ a x, ((![v231, v20] : Fin 2 → IVec S16 32) a x).toNat < S128x256.size a) ∧
  (∀ a x, ((![v231, v21] : Fin 2 → IVec S16 32) a x).toNat < S128x256.size a)
theorem k0_idx256_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v6] : Fin 2 → IVec S16 32) a x).toNat < S128x256.size a := fun v6 v7 v8 v9 v10 v11 v12 v13 v14 v15 v16 v17 v18 v19 v20 v21 v231 k0_hw31 => k0_hw31.1
theorem k0_idx257_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v7] : Fin 2 → IVec S16 32) a x).toNat < S128x256.size a := fun v6 v7 v8 v9 v10 v11 v12 v13 v14 v15 v16 v17 v18 v19 v20 v21 v231 k0_hw31 => k0_hw31.2.1
theorem k0_idx258_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v8] : Fin 2 → IVec S16 32) a x).toNat < S128x256.size a := fun v6 v7 v8 v9 v10 v11 v12 v13 v14 v15 v16 v17 v18 v19 v20 v21 v231 k0_hw31 => k0_hw31.2.2.1
theorem k0_idx259_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v9] : Fin 2 → IVec S16 32) a x).toNat < S128x256.size a := fun v6 v7 v8 v9 v10 v11 v12 v13 v14 v15 v16 v17 v18 v19 v20 v21 v231 k0_hw31 => k0_hw31.2.2.2.1
theorem k0_idx260_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v10] : Fin 2 → IVec S16 32) a x).toNat < S128x256.size a := fun v6 v7 v8 v9 v10 v11 v12 v13 v14 v15 v16 v17 v18 v19 v20 v21 v231 k0_hw31 => k0_hw31.2.2.2.2.1
theorem k0_idx261_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v11] : Fin 2 → IVec S16 32) a x).toNat < S128x256.size a := fun v6 v7 v8 v9 v10 v11 v12 v13 v14 v15 v16 v17 v18 v19 v20 v21 v231 k0_hw31 => k0_hw31.2.2.2.2.2.1
theorem k0_idx262_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v12] : Fin 2 → IVec S16 32) a x).toNat < S128x256.size a := fun v6 v7 v8 v9 v10 v11 v12 v13 v14 v15 v16 v17 v18 v19 v20 v21 v231 k0_hw31 => k0_hw31.2.2.2.2.2.2.1
theorem k0_idx263_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v13] : Fin 2 → IVec S16 32) a x).toNat < S128x256.size a := fun v6 v7 v8 v9 v10 v11 v12 v13 v14 v15 v16 v17 v18 v19 v20 v21 v231 k0_hw31 => k0_hw31.2.2.2.2.2.2.2.1
theorem k0_idx264_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v14] : Fin 2 → IVec S16 32) a x).toNat < S128x256.size a := fun v6 v7 v8 v9 v10 v11 v12 v13 v14 v15 v16 v17 v18 v19 v20 v21 v231 k0_hw31 => k0_hw31.2.2.2.2.2.2.2.2.1
theorem k0_idx265_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v15] : Fin 2 → IVec S16 32) a x).toNat < S128x256.size a := fun v6 v7 v8 v9 v10 v11 v12 v13 v14 v15 v16 v17 v18 v19 v20 v21 v231 k0_hw31 => k0_hw31.2.2.2.2.2.2.2.2.2.1
theorem k0_idx266_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v16] : Fin 2 → IVec S16 32) a x).toNat < S128x256.size a := fun v6 v7 v8 v9 v10 v11 v12 v13 v14 v15 v16 v17 v18 v19 v20 v21 v231 k0_hw31 => k0_hw31.2.2.2.2.2.2.2.2.2.2.1
theorem k0_idx267_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v17] : Fin 2 → IVec S16 32) a x).toNat < S128x256.size a := fun v6 v7 v8 v9 v10 v11 v12 v13 v14 v15 v16 v17 v18 v19 v20 v21 v231 k0_hw31 => k0_hw31.2.2.2.2.2.2.2.2.2.2.2.1
theorem k0_idx268_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v18] : Fin 2 → IVec S16 32) a x).toNat < S128x256.size a := fun v6 v7 v8 v9 v10 v11 v12 v13 v14 v15 v16 v17 v18 v19 v20 v21 v231 k0_hw31 => k0_hw31.2.2.2.2.2.2.2.2.2.2.2.2.1
theorem k0_idx269_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v19] : Fin 2 → IVec S16 32) a x).toNat < S128x256.size a := fun v6 v7 v8 v9 v10 v11 v12 v13 v14 v15 v16 v17 v18 v19 v20 v21 v231 k0_hw31 => k0_hw31.2.2.2.2.2.2.2.2.2.2.2.2.2.1
theorem k0_idx270_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v20] : Fin 2 → IVec S16 32) a x).toNat < S128x256.size a := fun v6 v7 v8 v9 v10 v11 v12 v13 v14 v15 v16 v17 v18 v19 v20 v21 v231 k0_hw31 => k0_hw31.2.2.2.2.2.2.2.2.2.2.2.2.2.2.1
theorem k0_idx271_inb : ∀ (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v19 : IVec S16 32) (v20 : IVec S16 32) (v21 : IVec S16 32) (v231 : IVec S16 32) (k0_hw31 : k0_chk31 v6 v7 v8 v9 v10 v11 v12 v13 v14 v15 v16 v17 v18 v19 v20 v21 v231), ∀ a x, ((![v231, v21] : Fin 2 → IVec S16 32) a x).toNat < S128x256.size a := fun v6 v7 v8 v9 v10 v11 v12 v13 v14 v15 v16 v17 v18 v19 v20 v21 v231 k0_hw31 => k0_hw31.2.2.2.2.2.2.2.2.2.2.2.2.2.2.2

def k0_chk32 (v276 : IVec S16 32) : Prop :=
  (∀ a x, ((![v276] : Fin 1 → IVec S16 32) a x).toNat < S512.size a)
theorem k0_idx272_inb : ∀ (v276 : IVec S16 32) (k0_hw32 : k0_chk32 v276), ∀ a x, ((![v276] : Fin 1 → IVec S16 32) a x).toNat < S512.size a := fun v276 k0_hw32 => k0_hw32
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x2048x256 : Shape := ⟨3, ![32, 2048, 256]⟩
abbrev S64x4 : Shape := ⟨2, ![64, 4]⟩
abbrev S_ : Shape := ⟨0, ![]⟩
abbrev S64x4x1 : Shape := ⟨3, ![64, 4, 1]⟩
abbrev S32x2048x64x4 : Shape := ⟨4, ![32, 2048, 64, 4]⟩
abbrev S1x1x64x4 : Shape := ⟨4, ![1, 1, 64, 4]⟩
abbrev S32x2048x4 : Shape := ⟨3, ![32, 2048, 4]⟩

abbrev nBuf : Space → Nat
  | .hbm => 17
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S64x4, .i32⟩
  | .hbm, ⟨2, _⟩ => ⟨S64x4, .f32⟩
  | .hbm, ⟨3, _⟩ => ⟨S_, .i32⟩
  | .hbm, ⟨4, _⟩ => ⟨S64x4, .i32⟩
  | .hbm, ⟨5, _⟩ => ⟨S64x4, .i1⟩
  | .hbm, ⟨6, _⟩ => ⟨S_, .i32⟩
  | .hbm, ⟨7, _⟩ => ⟨S64x4, .i32⟩
  | .hbm, ⟨8, _⟩ => ⟨S64x4, .i32⟩
  | .hbm, ⟨9, _⟩ => ⟨S64x4, .i32⟩
  | .hbm, ⟨10, _⟩ => ⟨S64x4x1, .i32⟩
  | .hbm, ⟨11, _⟩ => ⟨S32x2048x64x4, .f32⟩
  | .hbm, ⟨12, _⟩ => ⟨S1x1x64x4, .f32⟩
  | .hbm, ⟨13, _⟩ => ⟨S32x2048x64x4, .f32⟩
  | .hbm, ⟨14, _⟩ => ⟨S32x2048x64x4, .f32⟩
  | .hbm, ⟨15, _⟩ => ⟨S_, .f32⟩
  | .hbm, ⟨16, _⟩ => ⟨S32x2048x4, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Rows.lean ====
/-
  The arithmetic of one tile of `run`, as functions: what one row of a block of `x` becomes (`rowPool`: the sixteen
  gathers' lane-wise maximum, folded by two lane rotations), what a block of 128 rows becomes (`blkPool`), and what the
  masked scatter of one row's four results does to a block's results (`storeIdx_row`). Everything holds at any float
  values.
-/
module

public import proofs.«01_k».proof.Defs
public import Idealize.ShloMosaic.Lib.ValueIdxCore
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic Idealize.ShloMosaic.ValueIdx

variable {F : FTy → Type} [FloatOps F]

/-- Index vector `c` of the table `A`: its words `16 c … 16 c + 15`. -/
def idxVec (A : S256.Idx → BitVec 32) (c : ℕ) : IVec S16 32 :=
  fun x => A (ix1 ⟨(16 * c + (x 0).val) % 256, Nat.mod_lt _ (by decide)⟩)

/-- The columns a vector of words names, out of a row `R`. -/
def gatRow (R : ℕ → F .f32) (v : IVec S16 32) : Vec F S16 .f32 := fun x => R (v x).toNat

/-- One row's sixteen lanes after the sixteen gathers and the two rotations: from the lanes' start `z`, the table `A` and
    the row `R`. -/
def rowPool (z : Vec F S16 .f32) (A : S256.Idx → BitVec 32) (R : ℕ → F .f32) : Vec F S16 .f32 :=
  k0_pay5 z (gatRow R (idxVec A 0)) (gatRow R (idxVec A 1)) (gatRow R (idxVec A 2)) (gatRow R (idxVec A 3))
    (gatRow R (idxVec A 4)) (gatRow R (idxVec A 5)) (gatRow R (idxVec A 6)) (gatRow R (idxVec A 7))
    (gatRow R (idxVec A 8)) (gatRow R (idxVec A 9)) (gatRow R (idxVec A 10)) (gatRow R (idxVec A 11))
    (gatRow R (idxVec A 12)) (gatRow R (idxVec A 13)) (gatRow R (idxVec A 14)) (gatRow R (idxVec A 15))

/-- Row `r` of a block of 128 rows. -/
def rowOf (X : S128x256.Idx → F .f32) (r : ℕ) : ℕ → F .f32 :=
  fun c => X (ix2 ⟨r % 128, Nat.mod_lt _ (by decide)⟩ ⟨c % 256, Nat.mod_lt _ (by decide)⟩)

/-- What a block becomes: element `4 r + k` is lane `k` of row `r`'s lanes. -/
def blkPool (z : Vec F S16 .f32) (A : S256.Idx → BitVec 32) (X : S128x256.Idx → F .f32) : S512.Idx → F .f32 :=
  fun j => rowPool z A (rowOf X ((j 0).val / 4)) (ix1 ⟨(j 0).val % 4, by omega⟩)

/-- A left fold of conditional overwrites at one place, none of which hits, keeps what was there. -/
theorem foldl_miss {ι α : Type} (hit : ι → Prop) [DecidablePred hit] (val : ι → α) :
    ∀ (l : List ι) (a : α), (∀ k ∈ l, ¬ hit k) → l.foldl (fun g k => if hit k then val k else g) a = a
  | [], _, _ => rfl
  | k :: l, a, h => by
    rw [List.foldl_cons, if_neg (h k List.mem_cons_self)]
    exact foldl_miss hit val l a fun k' hk' => h k' (List.mem_cons_of_mem _ hk')

/-- One that hits at exactly one element of the list leaves that element's value. -/
theorem foldl_hit {ι α : Type} [DecidableEq ι] (hit : ι → Prop) [DecidablePred hit] (val : ι → α) (k₀ : ι) (h₀ : hit k₀) :
    ∀ (l : List ι) (a : α), k₀ ∈ l → (∀ k ∈ l, hit k → k = k₀) → l.foldl (fun g k => if hit k then val k else g) a = val k₀
  | [], _, hm, _ => absurd hm List.not_mem_nil
  | k :: l, a, hm, hu => by
    rw [List.foldl_cons]
    by_cases hl : k₀ ∈ l
    · exact foldl_hit hit val k₀ h₀ l _ hl fun k' hk' => hu k' (List.mem_cons_of_mem _ hk')
    · obtain rfl : k₀ = k := (List.mem_cons.mp hm).resolve_right hl
      rw [if_pos h₀]
      exact foldl_miss hit val l _ fun k' hk' hh => hl (hu k' (List.mem_cons_of_mem _ hk') hh ▸ hk')

/-- A scatter without addition, at one place: the fold of the lanes' conditional overwrites there. -/
theorem storeIdx_apply {s : Shape} {e : EltTy} {d : Fin 1 → Nat} (f : Vec F s e) (idxs : Fin s.rank → IVec ⟨1, d⟩ 32) (v : Vec F ⟨1, d⟩ e)
    (mask : IVec ⟨1, d⟩ 1) (h : ∀ a x, (idxs a x).toNat < s.size a) (j : s.Idx) :
    storeIdx f idxs v mask false h j
      = (List.finRange (d 0)).foldl (fun g k => if mask (Shape.ofLane k) = 1 ∧ ∀ a, (j a).val = (idxs a (Shape.ofLane k)).toNat
          then v (Shape.ofLane k) else g) (f j) := by
  unfold storeIdx
  generalize List.finRange (d 0) = l
  induction l generalizing f with
  | nil => rfl
  | cons k l ih =>
    rw [List.foldl_cons, List.foldl_cons, ih]
    congr 1
    by_cases hm : mask (Shape.ofLane k) = 1
    · simp [hm, idxAt]
    · show (if mask (Shape.ofLane k) = 1 then _ else f) j = _
      rw [if_neg hm, if_neg fun hh => hm hh.1]

/-- The words the scatter of row `t` goes to: `4 t` and the lane's last two bits. -/
theorem pay6_toNat (t : Fin k0_t1_loop.trips) (x : S16.Idx) :
    (k0_pay6 (iota .scVector S16 32 [0] iota_S16_d0_w32_scVector) t x).toNat = 4 * t.val + (x 0).val % 4 := by
  obtain ⟨t, ht⟩ := t
  obtain ⟨l, rfl⟩ : ∃ l, x = ix1 l := ⟨_, eq_ix1 x⟩
  have ht' : t < 128 := ht
  have hl : l.val < 16 := l.isLt
  have e : IntOp.andi (iota .scVector S16 32 [0] iota_S16_d0_w32_scVector (ix1 l)) 3#32 = BitVec.ofNat 32 (l.val % 4) := by
    revert l; decide
  show (IntOp.addi (IntOp.andi (iota .scVector S16 32 [0] iota_S16_d0_w32_scVector (ix1 l)) 3#32) (IntOp.muli (0#32 + BitVec.ofNat 32 t * 1#32) 4#32)).toNat = _
  rw [e]
  simp only [IntOp.addi, IntOp.muli, BitVec.toNat_add, BitVec.toNat_mul, BitVec.toNat_ofNat]
  show _ = 4 * t + l.val % 4
  omega

/-- The mask: lanes 0 to 3. -/
theorem pay4_eq (k : Fin 16) : (k0_pay4 (ix1 k) = 1#1) ↔ k.val < 4 := by
  revert k; decide

/-- Row `t`'s scatter: elements `4 t … 4 t + 3` take the row's first four lanes, the others keep theirs. -/
theorem storeIdx_row (f : S512.Idx → F .f32) (t : Fin k0_t1_loop.trips) (v : Vec F S16 .f32)
    (h : ∀ a x, ((![k0_pay6 (iota .scVector S16 32 [0] iota_S16_d0_w32_scVector) t] : Fin 1 → IVec S16 32) a x).toNat < S512.size a) (j : S512.Idx) :
    storeIdx (F := F) (s := S512) (e := .f32) (d := ![16]) f ![k0_pay6 (iota .scVector S16 32 [0] iota_S16_d0_w32_scVector) t] v k0_pay4 false h j
      = if (j 0).val / 4 = t.val then v (ix1 ⟨(j 0).val % 4, by omega⟩) else f j := by
  have hcond : ∀ k : Fin 16, (k0_pay4 (Shape.ofLane (d := ![16]) k) = 1 ∧ ∀ a, (j a).val
      = ((![k0_pay6 (iota .scVector S16 32 [0] iota_S16_d0_w32_scVector) t] : Fin 1 → IVec S16 32) a (Shape.ofLane (d := ![16]) k)).toNat)
      ↔ (k.val < 4 ∧ (j 0).val = 4 * t.val + k.val % 4) := by
    intro k
    have e : (Shape.ofLane (d := ![16]) k : S16.Idx) = ix1 k := eq_ix1 _
    rw [e]
    refine and_congr (pay4_eq k) ⟨fun h' => (h' 0).trans (pay6_toNat t _), fun h' a => ?_⟩
    obtain rfl : a = 0 := Subsingleton.elim _ _
    exact h'.trans (pay6_toNat t (ix1 k)).symm
  rw [storeIdx_apply]
  split_ifs with hj
  · have h16 : (j 0).val % 4 < 16 := by omega
    refine (foldl_hit _ _ (⟨(j 0).val % 4, h16⟩ : Fin 16) ((hcond _).mpr ⟨by show (j 0).val % 4 < 4; omega, by show (j 0).val = 4 * t.val + (j 0).val % 4 % 4; omega⟩)
      (List.finRange 16) (f j) (List.mem_finRange _) fun k _ hk => ?_).trans ?_
    · have := (hcond k).mp hk
      exact Fin.ext (by show k.val = (j 0).val % 4; omega)
    · exact congrArg v (eq_ix1 _)
  · refine foldl_miss _ _ _ _ fun k _ hk => hj ?_
    have := (hcond k).mp hk
    omega

/-- A gather of one row of a block: lane by lane, the row's element at the word. -/
theorem loadIdx_row (X : S128x256.Idx → F .f32) (w : BitVec 32) (v : IVec S16 32)
    (h : ∀ a x, ((![broadcast S16 w, v] : Fin 2 → IVec S16 32) a x).toNat < S128x256.size a) :
    loadIdx (F := F) (s := S128x256) (e := .f32) X ![broadcast S16 w, v] h = gatRow (rowOf X w.toNat) v := by
  funext x
  have h0 : w.toNat < 128 := h 0 x
  have h1 : (v x).toNat < 256 := h 1 x
  show X (idxAt _ h x) = X (ix2 _ _)
  congr 1
  funext a
  match a with
  | 0 => exact Fin.ext (Nat.mod_eq_of_lt h0).symm
  | 1 => exact Fin.ext (Nat.mod_eq_of_lt h1).symm

end Cert.Proof.Pool

end
-- ==== Proof.Setup.lean ====
/-
  The launch of `run`, set up for the proof: the program as the launch theorem sees it, the ghost state (the
  handshakes' rounds beside the transfers' counters), the buffers' names and locations.
-/
module

public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The propositions of the proof: over this mesh, these buffers, the handshakes' and the counters' ghost state. -/
abbrev MM (F : FTy → Type) : Type := MT nD τ sig (HIx 1) (Elt F) ℕ UU ℕ

abbrev EH : Emb UH (MM F) := embL

abbrev xV : Memref sig .scVector .hbm S65536x256 .f32 := Memref.whole main_v13_scv
abbrev aV : Memref sig .scVector .hbm S256 .i32 := Memref.whole main_v6_scv
abbrev zV : Memref sig .scVector .hbm S16 .f32 := Memref.whole main_v12_scv
abbrev oV : Memref sig .scVector .hbm S262144 .f32 := Memref.whole main_v14_scv
abbrev b0 : Memref sig .scVector .vmem S128x256 .f32 := Memref.whole cc0_scratch0
abbrev b1 : Memref sig .scVector .vmem S128x256 .f32 := Memref.whole cc0_scratch1
abbrev r0 : Memref sig .scVector .vmem S512 .f32 := Memref.whole cc0_scratch2
abbrev r1 : Memref sig .scVector .vmem S512 .f32 := Memref.whole cc0_scratch3
abbrev tA : Memref sig .scVector .vmem S256 .i32 := Memref.whole cc0_scratch4
abbrev tZ : Memref sig .scVector .vmem S16 .f32 := Memref.whole cc0_scratch5

abbrev xLoc (d : Dev nD) : Loc nD τ sig := (SparseCore.T d).loc main_v13
abbrev aLoc (d : Dev nD) : Loc nD τ sig := (SparseCore.T d).loc main_v6
abbrev zLoc (d : Dev nD) : Loc nD τ sig := (SparseCore.T d).loc main_v12
abbrev oLoc (d : Dev nD) : Loc nD τ sig := (SparseCore.T d).loc main_v14

abbrev cV (i : grid0.Coords) : Fin τ.nSC := (i 0).castLE hcore0
abbrev jV (i : grid0.Coords) : Fin τ.nSub := (i 1).castLE hsub0
/-- The tile that runs the body at grid coordinates `i`. -/
abbrev tile (d : Dev nD) (i : grid0.Coords) : Thread nD τ := V d (cV i) (jV i)

end Cert.Proof.Pool

end
-- ==== Proof.RowLoop.lean ====
/-
  The counted loop over a block's 128 rows, once for every block and every pair of buffers: from the block held in `xb`
  (any share), the results' buffer `ob` at anything, it ends with `ob` reading the block's pooled rows (`blkPool`).
-/
module

public import proofs.«01_k».proof.Proof.Setup

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The rows' loop at the printed shape of the first one, its block and results' buffers any. -/
abbrev rowsLoop (i : grid0.Coords) (xb : Memref sig .scVector .vmem S128x256 .f32) (hxb : xb.IsWhole) (ob : Memref sig .scVector .vmem S512 .f32) (hob : ob.IsWhole)
    (z : Vec F S16 .f32) (A : S256.Idx → BitVec 32) : Prog (TpuEff nD τ sig (Elt F) Λ₀ (.scVector (cV i) (jV i))) (BitVec 32) :=
  Scf.Loop.for k0_t1_loop k0_t1_ok 0#32
    (k0_t1_body i xV (Memref.isWhole_whole _) aV (Memref.isWhole_whole _) zV (Memref.isWhole_whole _) oV (Memref.isWhole_whole _) xb hxb xb hxb ob hob ob hob
      tA (Memref.isWhole_whole _) tZ (Memref.isWhole_whole _) cc0_scratch6 cc0_scratch7 cc0_scratch8 cc0_scratch9 cc0_scoped0 cc0_scoped1
      (iota .scVector S16 32 [0] iota_S16_d0_w32_scVector) z k0_pay4
      (idxVec A 0) (idxVec A 1) (idxVec A 2) (idxVec A 3) (idxVec A 4) (idxVec A 5) (idxVec A 6) (idxVec A 7)
      (idxVec A 8) (idxVec A 9) (idxVec A 10) (idxVec A 11) (idxVec A 12) (idxVec A 13) (idxVec A 14) (idxVec A 15) 0#32)

/-- Row `t`'s word, as the loop's counter gives it. -/
theorem iv_toNat (t : Fin k0_t1_loop.trips) : (Scf.iv 0#32 1#32 t.val).toNat = t.val := by
  have h : t.val < 128 := t.isLt
  simp only [Scf.iv, BitVec.toNat_add, BitVec.toNat_mul, BitVec.toNat_ofNat]
  omega

/-- A gather's words are inside the block: the row's by the loop's bound, the columns' by the table's. -/
theorem inb_row (A : S256.Idx → BitVec 32) (hA : ∀ j, (A j).toNat < 256) (t : Fin k0_t1_loop.trips) (c : ℕ) :
    ∀ a x, ((![broadcast S16 (Scf.iv 0#32 1#32 t.val), idxVec A c] : Fin 2 → IVec S16 32) a x).toNat < S128x256.size a := by
  intro a x
  match a with
  | 0 => exact (iv_toNat t).trans_lt t.isLt
  | 1 => exact hA _

/-- The results' buffer after `t` rows: those rows' elements are pooled. -/
def doneRows (z : Vec F S16 .f32) (A : S256.Idx → BitVec 32) (X : S128x256.Idx → F .f32) (t : ℕ) (g : S512.Idx → F .f32) : Prop :=
  ∀ j : S512.Idx, (j 0).val / 4 < t → g j = blkPool z A X j

/-- One more row. -/
theorem doneRows_succ {z : Vec F S16 .f32} {A : S256.Idx → BitVec 32} {X : S128x256.Idx → F .f32} {t : Fin k0_t1_loop.trips} {g : S512.Idx → F .f32}
    (hg : doneRows z A X t.val g) (v : Vec F S16 .f32) (hv : v = rowPool z A (rowOf X t.val)) (h) :
    doneRows z A X (t.val + 1)
      (storeIdx (F := F) (s := S512) (e := .f32) (d := ![16]) g ![k0_pay6 (iota .scVector S16 32 [0] iota_S16_d0_w32_scVector) t] v k0_pay4 false h) := by
  intro j hj
  rw [storeIdx_row]
  split_ifs with hjt
  · rw [hv, ← hjt]; rfl
  · exact hg j (by omega)

/-- One gather of a row: the loop's buffer is read and kept. -/
theorem wp_idx (d : Dev nD) (i : grid0.Coords) (xb : Memref sig .scVector .vmem S128x256 .f32)
    (f : Buf (Elt F) ((xb.access (.whole S128x256)).loc (tile d i))) {idxs : Fin 2 → IVec S16 32} (h : ∀ a x, (idxs a x).toNat < S128x256.size a)
    {β : Type} {k : Vec F S16 .f32 → Prog (TpuEff nD τ sig (Elt F) Λ₀ (.scVector (cV i) (jV i))) β} {Q : β → sProp 𝕄} :
    ((xb.access (.whole S128x256)).loc (tile d i) ↦[(xb.access (.whole S128x256)).set]{fullShare} f)
      ⊢ iprop((((xb.access (.whole S128x256)).loc (tile d i) ↦[(xb.access (.whole S128x256)).set]{fullShare} f)
          -∗ wp frame (wpE (defs₀ (F := F)) 𝒱₀ (tile d i) none) Set.univ (k (loadIdx ((xb.access (.whole S128x256)).read (Elt F) f) idxs h)) Q)
        -∗ wp frame (wpE (defs₀ (F := F)) 𝒱₀ (tile d i) none) Set.univ
            (SparseCore.vectorLoadIdx xb idxs h (View.loads_vmem h_S128x256) >>= k) Q) :=
  SparseCore.wp_vectorLoadIdx 𝒱₀ (tile d i) none Set.univ subset_rfl

set_option maxHeartbeats 4000000 in
/-- One trip of the loop. -/
theorem wp_row (d : Dev nD) (i : grid0.Coords) (xb : Memref sig .scVector .vmem S128x256 .f32) (hxb : xb.IsWhole) (ob : Memref sig .scVector .vmem S512 .f32) (hob : ob.IsWhole)
    (z : Vec F S16 .f32) (A : S256.Idx → BitVec 32) (hA : ∀ j, (A j).toNat < 256)
    (f : Buf (Elt F) ((xb.access (.whole S128x256)).loc (tile d i))) (t : Fin k0_t1_loop.trips) (acc : BitVec 32) :
    iprop(((xb.access (.whole S128x256)).loc (tile d i) ↦[(xb.access (.whole S128x256)).set]{fullShare} f)
        ∗ ∃ g, ⌜doneRows z A ((xb.access (.whole S128x256)).read (Elt F) f) t.val ((ob.access (.whole S512)).read (Elt F) g)⌝
          ∗ ((ob.access (.whole S512)).loc (tile d i) ↦[(ob.access (.whole S512)).set]{fullShare} g))
      ⊢ (wp frame (wpE (defs₀ (F := F)) 𝒱₀ (tile d i) none) Set.univ
          (k0_t1_body i xV (Memref.isWhole_whole _) aV (Memref.isWhole_whole _) zV (Memref.isWhole_whole _) oV (Memref.isWhole_whole _) xb hxb xb hxb ob hob ob hob
            tA (Memref.isWhole_whole _) tZ (Memref.isWhole_whole _) cc0_scratch6 cc0_scratch7 cc0_scratch8 cc0_scratch9 cc0_scoped0 cc0_scoped1
            (iota .scVector S16 32 [0] iota_S16_d0_w32_scVector) z k0_pay4
            (idxVec A 0) (idxVec A 1) (idxVec A 2) (idxVec A 3) (idxVec A 4) (idxVec A 5) (idxVec A 6) (idxVec A 7)
            (idxVec A 8) (idxVec A 9) (idxVec A 10) (idxVec A 11) (idxVec A 12) (idxVec A 13) (idxVec A 14) (idxVec A 15) 0#32 t acc)
          (fun _ => iprop(((xb.access (.whole S128x256)).loc (tile d i) ↦[(xb.access (.whole S128x256)).set]{fullShare} f)
        ∗ ∃ g, ⌜doneRows z A ((xb.access (.whole S128x256)).read (Elt F) f) (t.val + 1) ((ob.access (.whole S512)).read (Elt F) g)⌝
          ∗ ((ob.access (.whole S512)).loc (tile d i) ↦[(ob.access (.whole S512)).set]{fullShare} g))) : sProp 𝕄) := by
  iintro ⟨Hx, %g, %hg, Ho⟩
  unfold k0_t1_body
  have hc : k0_chk1 (idxVec A 0) (idxVec A 1) (idxVec A 2) (idxVec A 3) (idxVec A 4) (idxVec A 5) (idxVec A 6) (idxVec A 7)
      (idxVec A 8) (idxVec A 9) (idxVec A 10) (idxVec A 11) (idxVec A 12) (idxVec A 13) (idxVec A 14) (idxVec A 15) (broadcast S16 (Scf.iv 0#32 1#32 t.val)) :=
    ⟨inb_row A hA t 0, inb_row A hA t 1, inb_row A hA t 2, inb_row A hA t 3, inb_row A hA t 4, inb_row A hA t 5, inb_row A hA t 6, inb_row A hA t 7,
      inb_row A hA t 8, inb_row A hA t 9, inb_row A hA t 10, inb_row A hA t 11, inb_row A hA t 12, inb_row A hA t 13, inb_row A hA t 14, inb_row A hA t 15⟩
  have hc' : k0_chk2 (k0_pay6 (iota .scVector S16 32 [0] iota_S16_d0_w32_scVector) t) := by
    intro a x
    obtain rfl : a = 0 := Subsingleton.elim _ _
    have h2 : t.val < 128 := t.isLt
    exact (pay6_toNat t x).trans_lt (by show _ < 512; omega)
  iapply (wp_assume 𝒱₀ (tile d i) none Set.univ hc)
  iterate 16
    iapply (wp_idx d i xb f (inb_row A hA t _)) $$ Hx; iintro Hx
  iapply (wp_assume 𝒱₀ (tile d i) none Set.univ hc')
  iapply (SparseCore.wp_vectorStoreIdx 𝒱₀ (tile d i) none Set.univ (base := ob) (hs := View.stores_vmem_bits_univ h_S512 rfl)) $$ Ho
  iintro Ho
  sl_step
  isplitl [Hx]; · iexact Hx
  iexists _
  isplitr
  swap; · iexact Ho
  ipureintro
  rw [View.read_write_univ]
  refine doneRows_succ hg _ ?_ _
  simp only [loadIdx_row, iv_toNat]
  rfl

/-- The whole loop, at the head of a program. -/
theorem wp_rows (d : Dev nD) (i : grid0.Coords) (xb : Memref sig .scVector .vmem S128x256 .f32) (hxb : xb.IsWhole) (ob : Memref sig .scVector .vmem S512 .f32) (hob : ob.IsWhole)
    (z : Vec F S16 .f32) (A : S256.Idx → BitVec 32) (hA : ∀ j, (A j).toNat < 256)
    (f : Buf (Elt F) ((xb.access (.whole S128x256)).loc (tile d i))) (g : Buf (Elt F) ((ob.access (.whole S512)).loc (tile d i)))
    {β : Type} (kk : BitVec 32 → Prog (TpuEff nD τ sig (Elt F) Λ₀ (.scVector (cV i) (jV i))) β) (Q : β → sProp 𝕄) :
    iprop(((xb.access (.whole S128x256)).loc (tile d i) ↦[(xb.access (.whole S128x256)).set]{fullShare} f)
        ∗ ((ob.access (.whole S512)).loc (tile d i) ↦[(ob.access (.whole S512)).set]{fullShare} g))
      ⊢ iprop((∀ acc g', ⌜(ob.access (.whole S512)).read (Elt F) g' = blkPool z A ((xb.access (.whole S128x256)).read (Elt F) f)⌝
            -∗ ((xb.access (.whole S128x256)).loc (tile d i) ↦[(xb.access (.whole S128x256)).set]{fullShare} f)
            -∗ ((ob.access (.whole S512)).loc (tile d i) ↦[(ob.access (.whole S512)).set]{fullShare} g')
            -∗ wp frame (wpE (defs₀ (F := F)) 𝒱₀ (tile d i) none) Set.univ (kk acc) Q)
          -∗ wp frame (wpE (defs₀ (F := F)) 𝒱₀ (tile d i) none) Set.univ (rowsLoop i xb hxb ob hob z A >>= kk) Q) := by
  iintro ⟨Hx, Ho⟩ HK
  iapply (Scf.wp_for_bind frame (wpE (defs₀ (F := F)) 𝒱₀ (tile d i) none) Set.univ _ _ _ k0_t1_ok 0#32 _
    (fun t _ => iprop(((xb.access (.whole S128x256)).loc (tile d i) ↦[(xb.access (.whole S128x256)).set]{fullShare} f)
        ∗ ∃ g, ⌜doneRows z A ((xb.access (.whole S128x256)).read (Elt F) f) t ((ob.access (.whole S512)).read (Elt F) g)⌝
          ∗ ((ob.access (.whole S512)).loc (tile d i) ↦[(ob.access (.whole S512)).set]{fullShare} g)))
    (fun t acc => wp_row d i xb hxb ob hob z A hA f t acc)) $$ [Hx Ho]
  · isplitl [Hx]; · iexact Hx
    iexists g
    isplitr
    · ipureintro; intro j hj; omega
    · iexact Ho
  iintro %acc ⟨Hx, %g', %hg', Ho⟩
  ispecialize HK $$ %acc %g'
  iapply HK $$ [] Hx Ho
  ipureintro
  funext j
  exact hg' j (by have h : (j 0).val < 512 := (j 0).isLt; show _ < 128; omega)

end Cert.Proof.Pool

end
-- ==== Proof.Steps.lean ====
/-
  The steps of a tile's schedule, each stated once for any buffers, semaphore and chunk number: a block of `x` starts
  towards a buffer, its wait, a block's loop, a block of results starts towards the result, its wait. Chunk `n` of the tile
  at `i` is the 128 rows from row `xRow i n` and the 512 results from element `4 · xRow i n`.
-/
module

public import proofs.«01_k».proof.Proof.RowLoop

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MM F

/-- The first row of chunk `n` of the tile at `i`. -/
def xRow (i : grid0.Coords) (n : ℕ) : ℕ := 4096 * (i 1).val + 2048 * (i 0).val + 128 * n

theorem xRow_lt (i : grid0.Coords) (n : ℕ) (hn : n < 16) : xRow i n + 128 ≤ 65536 := by
  have h0 : (i 0).val < 2 := (i 0).isLt
  have h1 : (i 1).val < 16 := (i 1).isLt
  unfold xRow; omega

/-- Row `r` of the whole of `x`. -/
def xLine (X : S65536x256.Idx → F .f32) (r : ℕ) : ℕ → F .f32 :=
  fun c => X (ix2 ⟨r % 65536, Nat.mod_lt _ (by decide)⟩ ⟨c % 256, Nat.mod_lt _ (by decide)⟩)

/-- The 128 rows of `x` from row `r`. -/
def xBlk (X : S65536x256.Idx → F .f32) (r : ℕ) : S128x256.Idx → F .f32 := fun y => xLine X (r + (y 0).val) (y 1).val

/-- The kernel's result: element `4 r + k` is lane `k` of row `r`'s lanes. -/
def poolOut (z : Vec F S16 .f32) (A : S256.Idx → BitVec 32) (X : S65536x256.Idx → F .f32) : S262144.Idx → F .f32 :=
  fun j => rowPool z A (xLine X ((j 0).val / 4)) (ix1 ⟨(j 0).val % 4, by omega⟩)

/-- A tile's buffer held whole, reading `v`. -/
def Has (d : Dev nD) (i : grid0.Coords) {s : Shape} {e : EltTy} (m : Memref sig .scVector .vmem s e) (v : s.Idx → Elt F e) : sProp 𝕄 :=
  iprop(∃ f, ⌜m.view.read (Elt F) f = v⌝ ∗ (m.view.loc (tile d i) ↦[m.view.set]{fullShare} f))

/-- A tile's buffer held whole, at some contents. -/
def Any (d : Dev nD) (i : grid0.Coords) {s : Shape} {e : EltTy} (m : Memref sig .scVector .vmem s e) : sProp 𝕄 := iprop(∃ v, Has (F := F) d i m v)

/-- What a tile owes, its own waits beside what it began with. -/
def Ow (d : Dev nD) (i : grid0.Coords) (O : CellTallies nD τ sig (HIx 1)) (W : Waits sig (HIx 1)) : sProp 𝕄 :=
  iprop(∃ W', ⌜∀ p ∈ W', p ∈ W ∨ p.2 = none⌝ ∗ owes (tile d i) O W')

/-- A transfer into or out of a tile's buffers, in flight on the semaphore `sem`, delivering `D`. -/
abbrev Fl (d : Dev nD) (i : grid0.Coords) (sem : DmaSems sig S_) (N : ℕ) (D : sProp 𝕄) : sProp 𝕄 :=
  Flight countersEmb (tile d i) (.dma sem.sem) (default : HIx 1) N D

/-- A block of `x`, from row `r`, on its way to the buffer `xb`; the rest of `x` in hand. -/
def XFl (d : Dev nD) (i : grid0.Coords) (q : PosShare TreeShare) (X : Buf (Elt F) (xLoc d)) (sem : DmaSems sig S_) (xb : Memref sig .scVector .vmem S128x256 .f32) (r : ℕ) : sProp 𝕄 :=
  iprop(∃ S : Finset (Idx (xLoc d)), Fl d i sem xb.view.dmaCredit iprop(Has d i xb (xBlk (F := F) X r) ∗ (xLoc d ↦[S]{q} X)) ∗ (xLoc d ↦[Finset.univ \ S]{q} X))

/-- The elements of the result from `a` up to `b`. -/
def oSet (d : Dev nD) (a b : ℕ) : Finset (Idx (oLoc d)) := Finset.univ.filter fun j : S262144.Idx => a ≤ (j 0).val ∧ (j 0).val < b

/-- A block of results, for the elements from `a`, on its way from the buffer `ob`. -/
def OFl (d : Dev nD) (i : grid0.Coords) (G : Buf (Elt F) (oLoc d)) (sem : DmaSems sig S_) (N : ℕ) (ob : Memref sig .scVector .vmem S512 .f32) (a : ℕ) : sProp 𝕄 :=
  Fl d i sem N iprop((oLoc d ↦[oSet d a (a + 512)]{fullShare} G) ∗ Any (F := F) d i ob)

theorem any_of_pts (d : Dev nD) (i : grid0.Coords) {s : Shape} {e : EltTy} (m : Memref sig .scVector .vmem s e) (f) :
    (m.view.loc (tile d i) ↦[m.view.set]{fullShare} f) ⊢ (Any (F := F) d i m : sProp 𝕄) := by
  unfold Any Has
  iintro H
  iexists _; iexists f
  isplitr
  · ipureintro; rfl
  · iexact H

theorem ow_insert (d : Dev nD) (i : grid0.Coords) (O : CellTallies nD τ sig (HIx 1)) (W W' : Waits sig (HIx 1)) (s : SemLoc sig)
    (h : ∀ p ∈ W', p ∈ W ∨ p.2 = none) : owes (tile d i) O (insert (s, (default : HIx 1)) W') ⊢ (Ow (F := F) d i O W : sProp 𝕄) := by
  unfold Ow
  iintro H
  iexists _
  isplitr
  swap; · iexact H
  ipureintro
  intro p hp
  rcases Finset.mem_insert.mp hp with hp | hp
  · exact .inr (hp ▸ rfl)
  · exact h p hp

theorem ow_elim (d : Dev nD) (i : grid0.Coords) (O : CellTallies nD τ sig (HIx 1)) (W : Waits sig (HIx 1)) :
    (Ow (F := F) d i O W : sProp 𝕄) ⊢ iprop(∃ W', ⌜∀ p ∈ W', p ∈ W ∨ p.2 = none⌝ ∗ owes (tile d i) O W') := .rfl

/-- A wait for a transfer in flight: what it delivers, the semaphore at zero again. -/
theorem wp_wait {d : Dev nD} {i : grid0.Coords} {O : CellTallies nD τ sig (HIx 1)} {W : Waits sig (HIx 1)} {sem : DmaSems sig S_} {N : ℕ} {D : sProp 𝕄}
    {sp sp' : Space} {s s' : Shape} {e e' : EltTy} {srcw : Memref sig .scVector sp' s' e'} {dstw : Memref sig .scVector sp s e}
    {hsrc : srcw.view.WordExact} {hdst : dstw.view.WordExact} (hN : dstw.view.dmaCredit = N)
    {β : Type} {k : PUnit → Prog (TpuEff nD τ sig (Elt F) Λ₀ (.scVector (cV i) (jV i))) β} {Q : β → sProp 𝕄} :
    Fl d i sem N D ⊢ iprop(Ow d i O W -∗ Transfers.MayWaits (tile d i) (default : HIx 1) O
      -∗ ((D ∗ semVal (tile d i, .dma sem.sem) 0 ∗ Ow d i O W) -∗ wp frame (wpE (defs₀ (F := F)) 𝒱₀ (tile d i) none) Set.univ (k ⟨⟩) Q)
      -∗ wp frame (wpE (defs₀ (F := F)) 𝒱₀ (tile d i) none) Set.univ (.op (.waitDma2 sem.sem srcw dstw hsrc hdst) k) Q) := by
  iintro Hf HO #Hmw HK
  icases (ow_elim (F := F) d i O W) $$ HO with ⟨%W', %hW', HO⟩
  iapply (Transfers.wp_waitLocalO countersEmb 𝒱₀ (tile d i) none (default : HIx 1) hN) $$ [Hf HO]
  · isplitl [Hf]; · iexact Hf
    isplitl [HO]; · iexact HO
    iapply (Transfers.MayWaits.elim (SemLoc.dma sem.sem)) $$ Hmw
  iintro ⟨HD, Hs, HO⟩
  iapply HK
  isplitl [HD]; · iexact HD
  isplitl [Hs]; · iexact Hs
  iapply (ow_insert d i O W W' _ hW') $$ HO

/-- The rows of a block of `x`, as the kernel addresses them. -/
abbrev xAt (o : Fin 2 → ℕ) (h : ∀ a, o a + S128x256.size a ≤ S65536x256.size a) : Memref sig .scVector .hbm S128x256 .f32 :=
  xV.slice (Rect.unit (s := S65536x256) o S128x256.size h) (fun _ => rfl)

/-- A block of the result, as the kernel addresses it. -/
abbrev oAt (o : Fin 1 → ℕ) (h : ∀ a, o a + S512.size a ≤ S262144.size a) : Memref sig .scVector .hbm S512 .f32 :=
  oV.slice (Rect.unit (s := S262144) o S512.size h) (fun _ => rfl)

theorem read_xAt (X : S65536x256.Idx → F .f32) {o : Fin 2 → ℕ} (h) {r : ℕ} (ho : o = ![r, 0]) : (xAt o h).view.read (Elt F) X = xBlk X r := by
  subst ho
  funext y
  have h0 : (y 0).val < 128 := (y 0).isLt
  have h1 : (y 1).val < 256 := (y 1).isLt
  have hr : r + 128 ≤ 65536 := h 0
  rw [View.read_apply]
  show X _ = X _
  congr 1
  funext a
  match a with
  | 0 => exact Fin.ext (by show r + 1 * (y 0).val = (r + (y 0).val) % 65536; omega)
  | 1 => exact Fin.ext (by show 0 + 1 * (y 1).val = (y 1).val % 256; omega)

/-- A whole array's fetch into a free buffer of its shape starts. -/
theorem wp_fetch (d : Dev nD) (i : grid0.Coords) {s : Shape} {e : EltTy} (src : Memref sig .scVector .hbm s e) (dst : Memref sig .scVector .vmem s e) (sem : DmaSems sig S_)
    {q : PosShare TreeShare} {f : Buf (Elt F) (src.view.loc (tile d i))} (hs : 0 < s.numel)
    {hsrc : src.view.WordExact} {hdst : dst.view.WordExact} {hsem : DmaTarget.Typed (nD := nD) (p := Proc.scVector (cV i) (jV i)) .hbm (SemLoc.dma sem.sem) (.here dst)}
    {β : Type} {k : PUnit → Prog (TpuEff nD τ sig (Elt F) Λ₀ (.scVector (cV i) (jV i))) β} {Q : β → sProp 𝕄} :
    (src.view.loc (tile d i) ↦[src.view.set]{q} f) ⊢ iprop(Any d i dst -∗ semVal (tile d i, .dma sem.sem) 0
      -∗ (Fl d i sem dst.view.dmaCredit iprop(Has (F := F) d i dst (src.view.read (Elt F) f) ∗ (src.view.loc (tile d i) ↦[src.view.set]{q} f))
            -∗ wp frame (wpE (defs₀ (F := F)) 𝒱₀ (tile d i) none) Set.univ (k ⟨⟩) Q)
      -∗ wp frame (wpE (defs₀ (F := F)) 𝒱₀ (tile d i) none) Set.univ (.op (.enqueueDma src (.here dst) (.dma sem.sem) hsrc hdst hsem) k) Q) := by
  iintro Hx Hb Hs HK
  unfold Any Has
  icases Hb with ⟨%v, %g, -, Hb⟩
  iapply (Transfers.wp_dmaLocal countersEmb 𝒱₀ (tile d i) none (default : HIx 1) dst.view.dmaCredit rfl (View.dmaCredit_pos _ hs) (subset_refl _)) $$ [Hx Hb Hs]
  · isplitl [Hx]; · iexact Hx
    isplitl [Hb]; · iexact Hb
    iexact Hs
  iintro Hf
  iapply HK
  unfold Fl
  iapply (Transfers.Flight_mono (D' := iprop((∃ f', ⌜dst.view.read (Elt F) f' = src.view.read (Elt F) f⌝ ∗ (dst.view.loc (tile d i) ↦[dst.view.set]{fullShare} f'))
    ∗ (src.view.loc (tile d i) ↦[src.view.set]{q} f))) countersEmb (tile d i) ?_) $$ Hf
  iintro ⟨Hb, Hx⟩
  isplitl [Hb]
  swap; · iexact Hx
  iexists _
  isplitr
  swap; · iexact Hb
  ipureintro
  rw [View.read_write_univ]

/-- A block of `x` starts towards a free buffer. -/
theorem wp_xStart (d : Dev nD) (i : grid0.Coords) {q : PosShare TreeShare} {X : Buf (Elt F) (xLoc d)} (xb : Memref sig .scVector .vmem S128x256 .f32) (sem : DmaSems sig S_)
    {o : Fin 2 → ℕ} {h : ∀ a, o a + S128x256.size a ≤ S65536x256.size a} {r : ℕ} (ho : o = ![r, 0])
    {hsrc : (xAt o h).view.WordExact} {hdst : xb.view.WordExact} {hsem : DmaTarget.Typed (nD := nD) (p := Proc.scVector (cV i) (jV i)) .hbm (SemLoc.dma sem.sem) (.here xb)}
    {β : Type} {k : PUnit → Prog (TpuEff nD τ sig (Elt F) Λ₀ (.scVector (cV i) (jV i))) β} {Q : β → sProp 𝕄} :
    (xLoc d ↦{q} X) ⊢ iprop(Any d i xb -∗ semVal (tile d i, .dma sem.sem) 0
      -∗ (XFl d i q X sem xb r -∗ wp frame (wpE (defs₀ (F := F)) 𝒱₀ (tile d i) none) Set.univ (k ⟨⟩) Q)
      -∗ wp frame (wpE (defs₀ (F := F)) 𝒱₀ (tile d i) none) Set.univ (.op (.enqueueDma (xAt o h) (.here xb) (.dma sem.sem) hsrc hdst hsem) k) Q) := by
  iintro Hx Hb Hs HK
  icases (pointsTo_split_subset (q := q) (f := X) (S := Finset.univ) (Finset.subset_univ (xAt o h).view.set)).1 $$ Hx with ⟨Hxs, Hxr⟩
  iapply (wp_fetch d i (xAt o h) xb sem (by decide)) $$ Hxs Hb Hs
  iintro Hf
  iapply HK
  unfold XFl
  iexists (xAt o h).view.set
  isplitl [Hf]
  swap; · iexact Hxr
  rw [read_xAt X h ho]
  iexact Hf

/-- The wait for a block of `x`: the buffer reads it, `x` is whole again. -/
theorem wp_xWait (d : Dev nD) (i : grid0.Coords) {O : CellTallies nD τ sig (HIx 1)} {W : Waits sig (HIx 1)} {q : PosShare TreeShare} {X : Buf (Elt F) (xLoc d)}
    (xb : Memref sig .scVector .vmem S128x256 .f32) (sem : DmaSems sig S_) {r : ℕ}
    {sp' : Space} {s' : Shape} {e' : EltTy} {srcw : Memref sig .scVector sp' s' e'} {hsrc : srcw.view.WordExact} {hdst : xb.view.WordExact}
    {β : Type} {k : PUnit → Prog (TpuEff nD τ sig (Elt F) Λ₀ (.scVector (cV i) (jV i))) β} {Q : β → sProp 𝕄} :
    XFl d i q X sem xb r ⊢ iprop(Ow d i O W -∗ Transfers.MayWaits (tile d i) (default : HIx 1) O
      -∗ (((xLoc d ↦{q} X) ∗ Has d i xb (xBlk (F := F) X r) ∗ semVal (tile d i, .dma sem.sem) 0 ∗ Ow d i O W) -∗ wp frame (wpE (defs₀ (F := F)) 𝒱₀ (tile d i) none) Set.univ (k ⟨⟩) Q)
      -∗ wp frame (wpE (defs₀ (F := F)) 𝒱₀ (tile d i) none) Set.univ (.op (.waitDma2 sem.sem srcw xb hsrc hdst) k) Q) := by
  unfold XFl
  iintro ⟨%S, Hf, Hxr⟩ HO Hmw HK
  iapply (wp_wait (d := d) (i := i) (O := O) (W := W) (sem := sem) rfl) $$ Hf HO Hmw
  iintro ⟨⟨Hb, Hxs⟩, Hs, HO⟩
  iapply HK
  isplitl [Hxs Hxr]
  · iapply (pointsTo_split_subset (q := q) (f := X) (S := Finset.univ) (Finset.subset_univ S)).2
    isplitl [Hxs] <;> iassumption
  isplitl [Hb]; · iexact Hb
  isplitl [Hs]; · iexact Hs
  iexact HO

theorem pts_access (d : Dev nD) (i : grid0.Coords) {s : Shape} {e : EltTy} (m : Memref sig .scVector .vmem s e) (f : Buf (Elt F) (m.view.loc (tile d i))) :
    ((m.access (.whole s)).loc (tile d i) ↦[(m.access (.whole s)).set]{fullShare} f : sProp 𝕄) = (m.view.loc (tile d i) ↦[m.view.set]{fullShare} f) := by
  have h : (m.access (.whole s)).set = m.view.set := by
    show (m.view.slice (.whole s)).set = _
    rw [View.set_slice, Rect.set_whole]; rfl
  rw [h]

theorem read_access {s : Shape} {e : EltTy} (m : Memref sig .scVector .vmem s e) (f : m.view.ty.Contents (Elt F)) :
    (m.access (.whole s)).read (Elt F) f = m.view.read (Elt F) f := by
  funext x
  rw [View.read_apply, View.read_apply]
  show _root_.cast _ (f (m.view.emb ((Rect.whole s).emb x))) = _
  rw [Rect.emb_whole_apply]

/-- A program followed by another runs as its own run, with the other's run for what it must reach. -/
theorem wp_seq (d : Dev nD) (i : grid0.Coords) {α β : Type} {p : Prog (TpuEff nD τ sig (Elt F) Λ₀ (.scVector (cV i) (jV i))) α}
    {kk : α → Prog (TpuEff nD τ sig (Elt F) Λ₀ (.scVector (cV i) (jV i))) β} {Q : β → sProp 𝕄} :
    wp frame (wpE (defs₀ (F := F)) 𝒱₀ (tile d i) none) Set.univ p (fun a => wp frame (wpE (defs₀ (F := F)) 𝒱₀ (tile d i) none) Set.univ (kk a) Q)
      ⊢ wp frame (wpE (defs₀ (F := F)) 𝒱₀ (tile d i) none) Set.univ (Prog.bind p kk) Q :=
  Entails.of_eq (wp_bind frame (wpE (defs₀ (F := F)) 𝒱₀ (tile d i) none) Set.univ p kk Q).symm

/-- A block's loop, however it is spelt (`h`): the results' buffer ends at the block's pooled rows. -/
theorem wp_block (d : Dev nD) (i : grid0.Coords) (xb : Memref sig .scVector .vmem S128x256 .f32) (hxb : xb.IsWhole) (ob : Memref sig .scVector .vmem S512 .f32) (hob : ob.IsWhole)
    (z : Vec F S16 .f32) (A : S256.Idx → BitVec 32) (hA : ∀ j, (A j).toNat < 256) {v : S128x256.Idx → F .f32}
    {prog : Prog (TpuEff nD τ sig (Elt F) Λ₀ (.scVector (cV i) (jV i))) (BitVec 32)} (h : prog = rowsLoop i xb hxb ob hob z A)
    {β : Type} {kk : BitVec 32 → Prog (TpuEff nD τ sig (Elt F) Λ₀ (.scVector (cV i) (jV i))) β} {Q : β → sProp 𝕄} :
    Has (F := F) d i xb v ⊢ iprop(Any d i ob
      -∗ (∀ acc, (Any d i xb ∗ Has d i ob (blkPool z A v)) -∗ wp frame (wpE (defs₀ (F := F)) 𝒱₀ (tile d i) none) Set.univ (kk acc) Q)
      -∗ wp frame (wpE (defs₀ (F := F)) 𝒱₀ (tile d i) none) Set.univ (prog >>= kk) Q) := by
  subst h
  iintro Hx Ho HK
  unfold Any Has
  icases Hx with ⟨%f, %hf, Hx⟩
  icases Ho with ⟨%w, %g, -, Ho⟩
  ihave Hx := (Entails.of_eq (pts_access (F := F) d i xb f).symm) $$ Hx
  ihave Ho := (Entails.of_eq (pts_access (F := F) d i ob g).symm) $$ Ho
  iapply (wp_rows d i xb hxb ob hob z A hA f g kk Q) $$ [Hx Ho]
  · isplitl [Hx]; · iexact Hx
    iexact Ho
  iintro %acc %g' %hg' Hx Ho
  ihave Hx := (Entails.of_eq (pts_access (F := F) d i xb f)) $$ Hx
  ihave Ho := (Entails.of_eq (pts_access (F := F) d i ob g')) $$ Ho
  ispecialize HK $$ %acc
  iapply HK
  isplitl [Hx]
  · iexists _; iexists f
    isplitr
    · ipureintro; rfl
    · iexact Hx
  iexists g'
  isplitr
  swap; · iexact Ho
  ipureintro
  rw [read_access, read_access] at hg'
  rw [hg', hf]

theorem set_oAt (d : Dev nD) {o : Fin 1 → ℕ} (h) {a : ℕ} (ho : o = ![a]) : (oAt o h).view.set = oSet d a (a + 512) := by
  subst ho
  show ((View.whole (main_v14_scv : Ref sig .scVector)).slice _).set = _
  rw [View.set_slice_whole]
  ext j
  rw [Rect.mem_set_unit]
  simp only [oSet, Finset.mem_filter, Finset.mem_univ, _root_.true_and]
  constructor
  · intro hh; exact hh 0
  · intro hh c
    match c with
    | 0 => exact hh

theorem read_oAt (z : Vec F S16 .f32) (A : S256.Idx → BitVec 32) (X : S65536x256.Idx → F .f32) {o : Fin 1 → ℕ} (h) {r : ℕ} (ho : o = ![4 * r]) :
    (oAt o h).view.read (Elt F) (poolOut z A X) = blkPool z A (xBlk X r) := by
  subst ho
  funext y
  have h0 : (y 0).val < 512 := (y 0).isLt
  have hr : 4 * r + 512 ≤ 262144 := h 0
  rw [View.read_apply]
  show poolOut z A X _ = _
  have e : ((oAt ![4 * r] h).view.emb y : S262144.Idx) = ix1 ⟨4 * r + (y 0).val, by omega⟩ := by
    funext a
    match a with
    | 0 => exact Fin.ext (by show 4 * r + 1 * (y 0).val = 4 * r + (y 0).val; omega)
  rw [e]
  unfold poolOut blkPool
  have e1 : xLine X ((4 * r + (y 0).val) / 4) = rowOf (xBlk X r) ((y 0).val / 4) := by
    funext c
    unfold rowOf xBlk xLine
    congr 1
    funext a
    match a with
    | 0 => exact Fin.ext (by show (4 * r + (y 0).val) / 4 % 65536 = (r + (y 0).val / 4 % 128) % 65536; omega)
    | 1 => exact Fin.ext (by show c % 256 = c % 256 % 256; omega)
  show rowPool z A (xLine X ((4 * r + (y 0).val) / 4)) (ix1 ⟨(4 * r + (y 0).val) % 4, _⟩) = _
  rw [e1]
  congr 2
  exact Fin.ext (by show (4 * r + (y 0).val) % 4 = (y 0).val % 4; omega)

/-- A block of results starts towards the result: its elements leave the tile's rest. -/
theorem wp_oStart (d : Dev nD) (i : grid0.Coords) {z : Vec F S16 .f32} {A : S256.Idx → BitVec 32} {X : S65536x256.Idx → F .f32} {f₀ : Buf (Elt F) (oLoc d)}
    (ob : Memref sig .scVector .vmem S512 .f32) (sem : DmaSems sig S_)
    {o : Fin 1 → ℕ} {h : ∀ a, o a + S512.size a ≤ S262144.size a} {r b : ℕ} (ho : o = ![4 * r]) (hb : 4 * r + 512 ≤ b)
    {hsrc : ob.view.WordExact} {hdst : (oAt o h).view.WordExact} {hsem : DmaTarget.Typed (nD := nD) (p := Proc.scVector (cV i) (jV i)) .vmem (SemLoc.dma sem.sem) (.here (oAt o h))}
    {β : Type} {k : PUnit → Prog (TpuEff nD τ sig (Elt F) Λ₀ (.scVector (cV i) (jV i))) β} {Q : β → sProp 𝕄} :
    (oLoc d ↦[oSet d (4 * r) b]{fullShare} f₀) ⊢ iprop(Has d i ob (blkPool z A (xBlk X r)) -∗ semVal (tile d i, .dma sem.sem) 0
      -∗ ((OFl d i (poolOut z A X) sem (oAt o h).view.dmaCredit ob (4 * r) ∗ (oLoc d ↦[oSet d (4 * r + 512) b]{fullShare} f₀))
            -∗ wp frame (wpE (defs₀ (F := F)) 𝒱₀ (tile d i) none) Set.univ (k ⟨⟩) Q)
      -∗ wp frame (wpE (defs₀ (F := F)) 𝒱₀ (tile d i) none) Set.univ (.op (.enqueueDma ob (.here (oAt o h)) (.dma sem.sem) hsrc hdst hsem) k) Q) := by
  iintro Ho Hb Hs HK
  unfold Has
  icases Hb with ⟨%f, %hf, Hb⟩
  have hsub : (oAt o h).view.set ⊆ oSet d (4 * r) b := by
    rw [set_oAt d h ho]; intro j hj
    simp only [oSet, Finset.mem_filter, Finset.mem_univ, _root_.true_and] at hj ⊢; omega
  have hdiff : oSet d (4 * r) b \ (oAt o h).view.set = oSet d (4 * r + 512) b := by
    rw [set_oAt d h ho]; ext j
    simp only [oSet, Finset.mem_sdiff, Finset.mem_filter, Finset.mem_univ, _root_.true_and]; omega
  icases (pointsTo_split_subset (q := fullShare) (f := f₀) hsub).1 $$ Ho with ⟨Hos, Hor⟩
  iapply (Transfers.wp_dmaLocal countersEmb 𝒱₀ (tile d i) none (default : HIx 1) (oAt o h).view.dmaCredit rfl (View.dmaCredit_pos _ (by decide)) (subset_refl _)) $$ [Hos Hb Hs]
  · isplitl [Hb]; · iexact Hb
    isplitl [Hos]; · iexact Hos
    iexact Hs
  iintro Hf
  iapply HK
  isplitl [Hf]
  swap; · rw [← hdiff]; iexact Hor
  unfold OFl Fl
  iapply (Transfers.Flight_mono (D' := iprop((oLoc d ↦[oSet d (4 * r) (4 * r + 512)]{fullShare} poolOut z A X) ∗ Any (F := F) d i ob)) countersEmb (tile d i) ?_) $$ Hf
  iintro ⟨Ho, Hb⟩
  isplitl [Ho]
  swap; · iapply (any_of_pts d i ob f) $$ Hb
  rw [← set_oAt d h ho]
  iapply (Entails.of_eq (pointsTo_congr (ℓ := oLoc d) (q := fullShare) ?_)) $$ Ho
  intro j hj
  obtain ⟨y, -, rfl⟩ := Finset.mem_map.mp hj
  refine (View.write_emb_of_mem (v := (oAt o h).view) _ _ (Finset.mem_univ y)).trans ?_
  have e := congrFun (read_oAt z A X h ho) y
  rw [View.read_apply] at e
  exact (congrFun hf y).trans e.symm

/-- The wait for a block of results: its elements hold the result, beside those before it; the buffer is free. -/
theorem wp_oWait (d : Dev nD) (i : grid0.Coords) {O : CellTallies nD τ sig (HIx 1)} {W : Waits sig (HIx 1)} {G : Buf (Elt F) (oLoc d)} {N : ℕ}
    (ob : Memref sig .scVector .vmem S512 .f32) (sem : DmaSems sig S_) {a b : ℕ} (hab : a ≤ b)
    {sp sp' : Space} {s s' : Shape} {e e' : EltTy} {srcw : Memref sig .scVector sp' s' e'} {dstw : Memref sig .scVector sp s e}
    {hsrc : srcw.view.WordExact} {hdst : dstw.view.WordExact} (hN : dstw.view.dmaCredit = N)
    {β : Type} {k : PUnit → Prog (TpuEff nD τ sig (Elt F) Λ₀ (.scVector (cV i) (jV i))) β} {Q : β → sProp 𝕄} :
    OFl (F := F) d i G sem N ob b ⊢ iprop((oLoc d ↦[oSet d a b]{fullShare} G) -∗ Ow d i O W -∗ Transfers.MayWaits (tile d i) (default : HIx 1) O
      -∗ (((oLoc d ↦[oSet d a (b + 512)]{fullShare} G) ∗ Any d i ob ∗ semVal (tile d i, .dma sem.sem) 0 ∗ Ow d i O W) -∗ wp frame (wpE (defs₀ (F := F)) 𝒱₀ (tile d i) none) Set.univ (k ⟨⟩) Q)
      -∗ wp frame (wpE (defs₀ (F := F)) 𝒱₀ (tile d i) none) Set.univ (.op (.waitDma2 sem.sem srcw dstw hsrc hdst) k) Q) := by
  unfold OFl
  iintro Hf Ho HO Hmw HK
  iapply (wp_wait (d := d) (i := i) (O := O) (W := W) (sem := sem) hN) $$ Hf HO Hmw
  iintro ⟨⟨Hn, Hb⟩, Hs, HO⟩
  iapply HK
  isplitl [Ho Hn]
  · have hdisj : Disjoint (oSet d a b) (oSet d b (b + 512)) := by
      rw [Finset.disjoint_left]; intro j h1 h2
      simp only [oSet, Finset.mem_filter, Finset.mem_univ, _root_.true_and] at h1 h2; omega
    have hun : oSet d a (b + 512) = oSet d a b ∪ oSet d b (b + 512) := by
      ext j; simp only [oSet, Finset.mem_union, Finset.mem_filter, Finset.mem_univ, _root_.true_and]; omega
    rw [hun]
    iapply (pointsTo_union (ℓ := oLoc d) (q := fullShare) (f := G) hdisj).2
    isplitl [Ho] <;> iassumption
  isplitl [Hb]; · iexact Hb
  isplitl [Hs]; · iexact Hs
  iexact HO

/-- The sixteen words of the table `A` from word `o`. -/
def tabAt (A : S256.Idx → BitVec 32) (o : ℕ) : IVec S16 32 := fun x => A (ix1 ⟨(o + (x 0).val) % 256, Nat.mod_lt _ (by decide)⟩)

/-- A load of sixteen words of the table. -/
theorem wp_tab (d : Dev nD) (i : grid0.Coords) {A : S256.Idx → BitVec 32} (m : Memref sig .scVector .vmem S256 .i32) {o : ℕ} {h : ∀ a, (![o] : Fin 1 → ℕ) a + S16.size a ≤ S256.size a}
    {hl : m.view.LoadsAt (Rect.unit (s := S256) ![o] S16.size h).toLoadRect}
    {β : Type} {k : Vec F S16 .i32 → Prog (TpuEff nD τ sig (Elt F) Λ₀ (.scVector (cV i) (jV i))) β} {Q : β → sProp 𝕄} :
    Has (F := F) d i m A ⊢ iprop((Has (F := F) d i m A -∗ wp frame (wpE (defs₀ (F := F)) 𝒱₀ (tile d i) none) Set.univ (k (tabAt A o)) Q)
      -∗ wp frame (wpE (defs₀ (F := F)) 𝒱₀ (tile d i) none) Set.univ (.op (.load m (Rect.unit (s := S256) ![o] S16.size h).toLoadRect hl) k) Q) := by
  iintro H HK
  unfold Has
  icases H with ⟨%f, %hf, H⟩
  iapply (wp_load 𝒱₀ (tile d i) none Set.univ (m := m) (S := m.view.set) (Finset.map_subset_map.mpr (Finset.subset_univ _))) $$ H
  iintro H
  have e : m.view.readAt (Elt F) (Rect.unit (s := S256) ![o] S16.size h).toLoadRect f = tabAt A o := by
    funext x
    rw [View.readAt_apply, hf]
    show A _ = A _
    congr 1
    funext a
    have h0 : (x 0).val < 16 := (x 0).isLt
    have h1 : o + 16 ≤ 256 := h 0
    match a with
    | 0 => exact Fin.ext (by show o + 1 * (x 0).val = (o + (x 0).val) % 256; omega)
  rw [e]
  iapply HK
  iexists f
  isplitr
  · ipureintro; exact hf
  · iexact H

/-- The load of the lanes' start. -/
theorem wp_start (d : Dev nD) (i : grid0.Coords) {z : S16.Idx → F .f32} (m : Memref sig .scVector .vmem S16 .f32) {h : ∀ a, (![0] : Fin 1 → ℕ) a + S16.size a ≤ S16.size a}
    {hl : m.view.LoadsAt (Rect.unit (s := S16) ![0] S16.size h).toLoadRect}
    {β : Type} {k : Vec F S16 .f32 → Prog (TpuEff nD τ sig (Elt F) Λ₀ (.scVector (cV i) (jV i))) β} {Q : β → sProp 𝕄} :
    Has (F := F) d i m z ⊢ iprop((Has (F := F) d i m z -∗ wp frame (wpE (defs₀ (F := F)) 𝒱₀ (tile d i) none) Set.univ (k z) Q)
      -∗ wp frame (wpE (defs₀ (F := F)) 𝒱₀ (tile d i) none) Set.univ (.op (.load m (Rect.unit (s := S16) ![0] S16.size h).toLoadRect hl) k) Q) := by
  iintro H HK
  unfold Has
  icases H with ⟨%f, %hf, H⟩
  iapply (wp_load 𝒱₀ (tile d i) none Set.univ (m := m) (S := m.view.set) (Finset.map_subset_map.mpr (Finset.subset_univ _))) $$ H
  iintro H
  have e : m.view.readAt (Elt F) (Rect.unit (s := S16) ![0] S16.size h).toLoadRect f = z := by
    funext x
    rw [View.readAt_apply, hf]
    show z _ = z _
    congr 1
    funext a
    match a with
    | 0 => exact Fin.ext (by show 0 + 1 * (x 0).val = (x 0).val; omega)
  rw [e]
  iapply HK
  iexists f
  isplitr
  · ipureintro; exact hf
  · iexact H

end Cert.Proof.Pool

end
-- ==== Proof.Tile.lean ====
/-
  The body of `run` on one tile, at a symbolic pair of SparseCore and subcore: the tables' fetches, then sixteen chunks
  through two pairs of buffers. The tile brings back its 8192 results at the kernel's function of `x` and the tables.
-/
module

public import proofs.«01_k».proof.Proof.Steps

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type} [FloatOps F]

local notation "𝕄" => MM F

/-- The offsets of chunk `n`'s block of `x`, in the two spellings the kernel prints, and of its block of results. -/
theorem off1_row (i : grid0.Coords) (n : Fin 2) : k0_off1 i (BitVec.ofNat 32 (128 * n.val)) = ![xRow i n.val, 0] := k0_off1_eq i n
theorem off3_row (i : grid0.Coords) (n : Fin 15) : k0_off3 i (BitVec.ofNat 32 (128 + 128 * n.val)) = ![xRow i (n.val + 1), 0] := by
  rw [k0_off3_eq]; unfold xRow
  funext a
  match a with
  | 0 => show _ = 4096 * (i 1).val + 2048 * (i 0).val + 128 * (n.val + 1); simp; omega
  | 1 => rfl
theorem off2_row (i : grid0.Coords) (n : Fin 16) : k0_off2 i (BitVec.ofNat 32 (128 * n.val)) = ![4 * xRow i n.val] := by
  rw [k0_off2_eq]; unfold xRow
  funext a
  match a with
  | 0 => show _ = 4 * (4096 * (i 1).val + 2048 * (i 0).val + 128 * n.val); simp; omega
theorem row_succ (i : grid0.Coords) (n : ℕ) : 4 * xRow i n + 512 = 4 * xRow i (n + 1) := by unfold xRow; omega
theorem row_le (i : grid0.Coords) (n : ℕ) (hn : n < 16) : 4 * xRow i n + 512 ≤ 4 * xRow i 16 := by unfold xRow; omega
theorem row_mono (i : grid0.Coords) (n : ℕ) : 4 * xRow i 0 ≤ 4 * xRow i n := by unfold xRow; omega

/-- A subcore's semaphore is among its own, a subcore's buffer among its own; two names are two places. -/
theorem mem_cells (d : Dev nD) (i : grid0.Coords) (s : SemLoc sig) (h : s.isScoped .scVector = true) : ((tile d i, s) : GSem nD τ sig) ∈ ownCells (tile d i) :=
  mem_ownCells.mpr ⟨rfl, h⟩
theorem cell_ne (d : Dev nD) (i : grid0.Coords) {s s' : SemLoc sig} (h : s ≠ s') : ((tile d i, s) : GSem nD τ sig) ≠ (tile d i, s') :=
  fun e => h (congrArg Prod.snd e)
theorem mem_refs (i : grid0.Coords) (b : Ref sig .scVector) (h : ((Proc.scVector (cV i) (jV i)).devRef b).owner = .proc (Proc.scVector (cV i) (jV i))) :
    (Proc.scVector (cV i) (jV i)).devRef b ∈ ownRefs (τ := τ) (.scVector (cV i) (jV i)) :=
  SparseCore.Cfg.mem_ownRefs_of_owner (p := Proc.scVector (cV i) (jV i)) (b := (Proc.scVector (cV i) (jV i)).devRef b) h
theorem ref_ne (i : grid0.Coords) {b b' : Ref sig .scVector} (h : b ≠ b') : (Proc.scVector (cV i) (jV i)).devRef b ≠ (Proc.scVector (cV i) (jV i)).devRef b' :=
  fun e => h (Proc.devRef_injective _ e)

theorem ow_start (d : Dev nD) (i : grid0.Coords) (O : CellTallies nD τ sig (HIx 1)) (W : Waits sig (HIx 1)) :
    owes (tile d i) O W ⊢ (Ow (F := F) d i O W : sProp 𝕄) := by
  unfold Ow
  iintro H
  iexists W
  isplitr
  · ipureintro; exact fun p hp => .inl hp
  · iexact H

theorem any_elim (d : Dev nD) (i : grid0.Coords) {s : Shape} {e : EltTy} (m : Memref sig .scVector .vmem s e) (h : m.view.set = Finset.univ) :
    (Any (F := F) d i m : sProp 𝕄) ⊢ iprop(∃ f, m.view.loc (tile d i) ↦{fullShare} f) := by
  unfold Any Has
  iintro ⟨%v, %f, -, H⟩
  iexists f
  rw [h]
  iexact H

theorem any_intro (d : Dev nD) (i : grid0.Coords) {s : Shape} {e : EltTy} (m : Memref sig .scVector .vmem s e) (h : m.view.set = Finset.univ) (f) :
    (m.view.loc (tile d i) ↦{fullShare} f) ⊢ (Any (F := F) d i m : sProp 𝕄) := by
  have e := any_of_pts (F := F) d i m f
  rw [h] at e
  exact e

theorem any_of_has (d : Dev nD) (i : grid0.Coords) {s : Shape} {e : EltTy} (m : Memref sig .scVector .vmem s e) (v : s.Idx → Elt F e) :
    (Has (F := F) d i m v : sProp 𝕄) ⊢ Any d i m := by
  unfold Any
  iintro H
  iexists v
  iexact H

abbrev cell (d : Dev nD) (i : grid0.Coords) (sem : DmaSems sig S_) : GSem nD τ sig := (tile d i, .dma sem.sem)

/-- The semaphores of the schedule are among the subcore's own: they are them and the rest. -/
theorem ownSems0_V (d : Dev nD) (i : grid0.Coords) :
    (ownSems0 (tile d i) : sProp 𝕄)
      = iprop(semVal (cell d i cc0_scratch6) 0 ∗ semVal (cell d i cc0_scratch7) 0 ∗ semVal (cell d i cc0_scratch8) 0 ∗ semVal (cell d i cc0_scratch9) 0 ∗ semVal (cell d i cc0_scoped0) 0 ∗ semVal (cell d i cc0_scoped1) 0
          ∗ bigSep (((((((ownCells (tile d i)).erase (cell d i cc0_scratch6)).erase (cell d i cc0_scratch7)).erase (cell d i cc0_scratch8)).erase (cell d i cc0_scratch9)).erase (cell d i cc0_scoped0)).erase (cell d i cc0_scoped1)) fun g => semVal g 0) := by
  unfold SparseCore.Cfg.ownSems0
  rw [SparseCore.bigSep_erase' (mem_cells d i (.dma cc0_scratch6.sem) (by decide)),
    SparseCore.bigSep_erase' (Finset.mem_erase.mpr ⟨cell_ne d i (by decide), mem_cells d i (.dma cc0_scratch7.sem) (by decide)⟩),
    SparseCore.bigSep_erase' (Finset.mem_erase.mpr ⟨cell_ne d i (by decide), Finset.mem_erase.mpr ⟨cell_ne d i (by decide), mem_cells d i (.dma cc0_scratch8.sem) (by decide)⟩⟩),
    SparseCore.bigSep_erase' (Finset.mem_erase.mpr ⟨cell_ne d i (by decide), Finset.mem_erase.mpr ⟨cell_ne d i (by decide), Finset.mem_erase.mpr ⟨cell_ne d i (by decide), mem_cells d i (.dma cc0_scratch9.sem) (by decide)⟩⟩⟩),
    SparseCore.bigSep_erase' (Finset.mem_erase.mpr ⟨cell_ne d i (by decide), Finset.mem_erase.mpr ⟨cell_ne d i (by decide), Finset.mem_erase.mpr ⟨cell_ne d i (by decide), Finset.mem_erase.mpr ⟨cell_ne d i (by decide), mem_cells d i (.dma cc0_scoped0.sem) (by decide)⟩⟩⟩⟩),
    SparseCore.bigSep_erase' (Finset.mem_erase.mpr ⟨cell_ne d i (by decide), Finset.mem_erase.mpr ⟨cell_ne d i (by decide), Finset.mem_erase.mpr ⟨cell_ne d i (by decide), Finset.mem_erase.mpr ⟨cell_ne d i (by decide), Finset.mem_erase.mpr ⟨cell_ne d i (by decide), mem_cells d i (.dma cc0_scoped1.sem) (by decide)⟩⟩⟩⟩⟩)]

/-- The scratch buffers are among the subcore's own: they are them, at some contents, and the rest. -/
theorem ownBufs_V (d : Dev nD) (i : grid0.Coords) :
    (ownBufs (tile d i) : sProp 𝕄)
      = iprop((∃ f, (tile d i).loc cc0_scratch0 ↦{fullShare} f) ∗ (∃ f, (tile d i).loc cc0_scratch1 ↦{fullShare} f) ∗ (∃ f, (tile d i).loc cc0_scratch2 ↦{fullShare} f) ∗ (∃ f, (tile d i).loc cc0_scratch3 ↦{fullShare} f) ∗ (∃ f, (tile d i).loc cc0_scratch4 ↦{fullShare} f) ∗ (∃ f, (tile d i).loc cc0_scratch5 ↦{fullShare} f)
          ∗ bigSep (((((((ownRefs (τ := τ) (.scVector (cV i) (jV i))).erase ((Proc.scVector (cV i) (jV i)).devRef cc0_scratch0)).erase ((Proc.scVector (cV i) (jV i)).devRef cc0_scratch1)).erase ((Proc.scVector (cV i) (jV i)).devRef cc0_scratch2)).erase ((Proc.scVector (cV i) (jV i)).devRef cc0_scratch3)).erase ((Proc.scVector (cV i) (jV i)).devRef cc0_scratch4)).erase ((Proc.scVector (cV i) (jV i)).devRef cc0_scratch5))
              fun b => iprop(∃ f, ((d, b) : Loc nD τ sig) ↦{fullShare} f)) := by
  unfold SparseCore.Cfg.ownBufs
  refine (SparseCore.bigSep_erase' (mem_refs i cc0_scratch0 rfl)).trans ?_
  rw [SparseCore.bigSep_erase' (Finset.mem_erase.mpr ⟨ref_ne i (by decide), mem_refs i cc0_scratch1 rfl⟩),
    SparseCore.bigSep_erase' (Finset.mem_erase.mpr ⟨ref_ne i (by decide), Finset.mem_erase.mpr ⟨ref_ne i (by decide), mem_refs i cc0_scratch2 rfl⟩⟩),
    SparseCore.bigSep_erase' (Finset.mem_erase.mpr ⟨ref_ne i (by decide), Finset.mem_erase.mpr ⟨ref_ne i (by decide), Finset.mem_erase.mpr ⟨ref_ne i (by decide), mem_refs i cc0_scratch3 rfl⟩⟩⟩),
    SparseCore.bigSep_erase' (Finset.mem_erase.mpr ⟨ref_ne i (by decide), Finset.mem_erase.mpr ⟨ref_ne i (by decide), Finset.mem_erase.mpr ⟨ref_ne i (by decide), Finset.mem_erase.mpr ⟨ref_ne i (by decide), mem_refs i cc0_scratch4 rfl⟩⟩⟩⟩),
    SparseCore.bigSep_erase' (Finset.mem_erase.mpr ⟨ref_ne i (by decide), Finset.mem_erase.mpr ⟨ref_ne i (by decide), Finset.mem_erase.mpr ⟨ref_ne i (by decide), Finset.mem_erase.mpr ⟨ref_ne i (by decide), Finset.mem_erase.mpr ⟨ref_ne i (by decide), mem_refs i cc0_scratch5 rfl⟩⟩⟩⟩⟩)]

/-- A return is run once what must be reached holds. -/
theorem wp_end (d : Dev nD) (i : grid0.Coords) {β : Type} (a : β) {Q : β → sProp 𝕄} :
    Q a ⊢ wp frame (wpE (defs₀ (F := F)) 𝒱₀ (tile d i) none) Set.univ (Prog.ret a) Q := by
  rw [wp_ret]
  iintro H
  imodintro
  iexact H

/-- Chunk `n`'s results start out of the buffer `ob`: of the elements not yet written, the later ones stay. -/
theorem wp_out (d : Dev nD) (i : grid0.Coords) {z : Vec F S16 .f32} {A : S256.Idx → BitVec 32} {X : S65536x256.Idx → F .f32} {f₀ : Buf (Elt F) (oLoc d)}
    (ob : Memref sig .scVector .vmem S512 .f32) (sem : DmaSems sig S_) (n : ℕ) (hn : n < 16)
    {o : Fin 1 → ℕ} {h : ∀ a, o a + S512.size a ≤ S262144.size a} (ho : o = ![4 * xRow i n])
    {hsrc : ob.view.WordExact} {hdst : (oAt o h).view.WordExact} {hsem : DmaTarget.Typed (nD := nD) (p := Proc.scVector (cV i) (jV i)) .vmem (SemLoc.dma sem.sem) (.here (oAt o h))}
    {β : Type} {k : PUnit → Prog (TpuEff nD τ sig (Elt F) Λ₀ (.scVector (cV i) (jV i))) β} {Q : β → sProp 𝕄} :
    (oLoc d ↦[oSet d (4 * xRow i n) (4 * xRow i 16)]{fullShare} f₀) ⊢ iprop(Has d i ob (blkPool z A (xBlk X (xRow i n))) -∗ semVal (tile d i, .dma sem.sem) 0
      -∗ ((OFl d i (poolOut z A X) sem (oAt o h).view.dmaCredit ob (4 * xRow i n) ∗ (oLoc d ↦[oSet d (4 * xRow i (n + 1)) (4 * xRow i 16)]{fullShare} f₀))
            -∗ wp frame (wpE (defs₀ (F := F)) 𝒱₀ (tile d i) none) Set.univ (k ⟨⟩) Q)
      -∗ wp frame (wpE (defs₀ (F := F)) 𝒱₀ (tile d i) none) Set.univ (.op (.enqueueDma ob (.here (oAt o h)) (.dma sem.sem) hsrc hdst hsem) k) Q) := by
  have e := wp_oStart (F := F) d i (z := z) (A := A) (X := X) (f₀ := f₀) ob sem (h := h) ho (row_le i n hn) (hsrc := hsrc) (hdst := hdst) (hsem := hsem) (k := k) (Q := Q)
  rwa [row_succ] at e

/-- The wait for chunk `n`'s results: the elements written are then those of the chunks up to it. -/
theorem wp_outWait (d : Dev nD) (i : grid0.Coords) {O : CellTallies nD τ sig (HIx 1)} {W : Waits sig (HIx 1)} {G : Buf (Elt F) (oLoc d)} {N : ℕ}
    (ob : Memref sig .scVector .vmem S512 .f32) (sem : DmaSems sig S_) (n : ℕ)
    {sp sp' : Space} {s s' : Shape} {e e' : EltTy} {srcw : Memref sig .scVector sp' s' e'} {dstw : Memref sig .scVector sp s e}
    {hsrc : srcw.view.WordExact} {hdst : dstw.view.WordExact} (hN : dstw.view.dmaCredit = N)
    {β : Type} {k : PUnit → Prog (TpuEff nD τ sig (Elt F) Λ₀ (.scVector (cV i) (jV i))) β} {Q : β → sProp 𝕄} :
    OFl (F := F) d i G sem N ob (4 * xRow i n) ⊢ iprop((oLoc d ↦[oSet d (4 * xRow i 0) (4 * xRow i n)]{fullShare} G) -∗ Ow d i O W -∗ Transfers.MayWaits (tile d i) (default : HIx 1) O
      -∗ (((oLoc d ↦[oSet d (4 * xRow i 0) (4 * xRow i (n + 1))]{fullShare} G) ∗ Any d i ob ∗ semVal (tile d i, .dma sem.sem) 0 ∗ Ow d i O W) -∗ wp frame (wpE (defs₀ (F := F)) 𝒱₀ (tile d i) none) Set.univ (k ⟨⟩) Q)
      -∗ wp frame (wpE (defs₀ (F := F)) 𝒱₀ (tile d i) none) Set.univ (.op (.waitDma2 sem.sem srcw dstw hsrc hdst) k) Q) := by
  have e := wp_oWait (F := F) d i (O := O) (W := W) (G := G) ob sem (row_mono i n) (hsrc := hsrc) (hdst := hdst) hN (k := k) (Q := Q)
  rwa [row_succ] at e

/-- No element is written at first. -/
theorem oSet_none (d : Dev nD) (a : ℕ) : oSet d a a = ∅ := by
  unfold oSet
  exact Finset.filter_eq_empty_iff.mpr fun j _ h => absurd h.1 (not_le.mpr h.2)

/-- What a tile is handed and brings back: a share of `x` and of the two tables, its elements of the result. -/
abbrev tileIn (d : Dev nD) (i : grid0.Coords) (q : PosShare TreeShare) (X : Buf (Elt F) (xLoc d)) (A : Buf (Elt F) (aLoc d)) (z : Buf (Elt F) (zLoc d)) (f : Buf (Elt F) (oLoc d)) : sProp 𝕄 :=
  iprop((xLoc d ↦{q} X) ∗ (aLoc d ↦{q} A) ∗ (zLoc d ↦{q} z) ∗ (oLoc d ↦[oSet d (4 * xRow i 0) (4 * xRow i 16)]{fullShare} f))

set_option maxHeartbeats 4000000 in
/-- The body on tile `i` of device `d`. -/
theorem tile_body (d : Dev nD) (i : grid0.Coords) (hF : (K (F := F)).Facts) (q : PosShare TreeShare) (X : Buf (Elt F) (xLoc d)) (A : Buf (Elt F) (aLoc d)) (z : Buf (Elt F) (zLoc d))
    (f₀ : Buf (Elt F) (oLoc d)) (hA : ∀ j : S256.Idx, (A j).toNat < 256) (O : CellTallies nD τ sig (HIx 1)) (W : Waits sig (HIx 1)) (hO : ∀ g, O g none = 0) :
    iprop(levAts (K (F := F)).L (K (F := F)).lev ∗ emp ∗ tileIn d i q X A z f₀
        ∗ scopedBufs (tile d i) ∗ scopedSems0 (tile d i) ∗ owes (tile d i) O W)
      ⊢ wp frame (wpE (defs₀ (F := F)) 𝒱₀ (tile d i) none) Set.univ
          (cc0_run i xV (Memref.isWhole_whole _) aV (Memref.isWhole_whole _) zV (Memref.isWhole_whole _) oV (Memref.isWhole_whole _)
            b0 (Memref.isWhole_whole _) b1 (Memref.isWhole_whole _) r0 (Memref.isWhole_whole _) r1 (Memref.isWhole_whole _)
            tA (Memref.isWhole_whole _) tZ (Memref.isWhole_whole _) cc0_scratch6 cc0_scratch7 cc0_scratch8 cc0_scratch9 cc0_scoped0 cc0_scoped1)
          fun _ => iprop(tileIn d i q X A z (poolOut z A X)
            ∗ scopedBufs (tile d i) ∗ scopedSems0 (tile d i)
            ∗ ∃ W', ⌜∀ p ∈ W', p ∈ W ∨ p.2 = none⌝ ∗ owes (tile d i) O W') := by
  rw [cc0_run_eq_skeleton]; unfold cc0_run_skel
  rw [k0_part1_eq_skeleton]; unfold k0_part1_skel
  rw [(K (F := F)).scopedBufs_V hF d (cV i) (jV i), SparseCore.Cfg.scopedSems0_V (Val := Elt F) d (cV i) (jV i), ownSems0_V, ownBufs_V]
  iintro ⟨#Hlv, -, ⟨HX, HA, Hz, HR⟩, ⟨⟨%f0, H0⟩, ⟨%f1, H1⟩, ⟨%f2, H2⟩, ⟨%f3, H3⟩, ⟨%f4, H4⟩, ⟨%f5, H5⟩, Hbufs⟩, ⟨Hs0, Hs1, Ht0, Ht1, Hsa, Hsz, Hsems⟩, HO⟩
  ihave #Hmw := (show levAts (K (F := F)).L (K (F := F)).lev ⊢ Transfers.MayWaits (tile d i) (default : HIx 1) O from
    (K (F := F)).mayWaits_none (thr := tile d i) hO) $$ Hlv
  ihave HO := (ow_start (F := F) d i O W) $$ HO
  ihave H0 := (any_intro (F := F) d i b0 (View.set_whole _) f0) $$ H0
  ihave H1 := (any_intro (F := F) d i b1 (View.set_whole _) f1) $$ H1
  ihave H2 := (any_intro (F := F) d i r0 (View.set_whole _) f2) $$ H2
  ihave H3 := (any_intro (F := F) d i r1 (View.set_whole _) f3) $$ H3
  ihave H4 := (any_intro (F := F) d i tA (View.set_whole _) f4) $$ H4
  ihave H5 := (any_intro (F := F) d i tZ (View.set_whole _) f5) $$ H5
  -- the two tables fetched, and read
  ihave HA := (show (aLoc d ↦{q} A) ⊢ ((aV).view.loc (tile d i) ↦[(aV).view.set]{q} A : sProp 𝕄) from by rw [View.set_whole]) $$ HA
  ihave Hz := (show (zLoc d ↦{q} z) ⊢ ((zV).view.loc (tile d i) ↦[(zV).view.set]{q} z : sProp 𝕄) from by rw [View.set_whole]) $$ Hz
  iapply (wp_fetch d i aV tA cc0_scoped0 (by decide)) $$ HA H4 Hsa
  iintro Hf
  iapply (wp_wait (d := d) (i := i) (O := O) (W := W) (sem := cc0_scoped0) rfl) $$ Hf HO Hmw
  iintro ⟨⟨H4, HA⟩, Hsa, HO⟩
  iapply (wp_fetch d i zV tZ cc0_scoped1 (by decide)) $$ Hz H5 Hsz
  iintro Hf
  iapply (wp_wait (d := d) (i := i) (O := O) (W := W) (sem := cc0_scoped1) rfl) $$ Hf HO Hmw
  iintro ⟨⟨H5, Hz⟩, Hsz, HO⟩
  ihave HA := (show ((aV).view.loc (tile d i) ↦[(aV).view.set]{q} A : sProp 𝕄) ⊢ (aLoc d ↦{q} A) from by rw [View.set_whole]) $$ HA
  ihave Hz := (show ((zV).view.loc (tile d i) ↦[(zV).view.set]{q} z : sProp 𝕄) ⊢ (zLoc d ↦{q} z) from by rw [View.set_whole]) $$ Hz
  ihave H4 := (show Has (F := F) d i tA ((aV).view.read (Elt F) A) ⊢ Has (F := F) d i tA A from .rfl) $$ H4
  ihave H5 := (show Has (F := F) d i tZ ((zV).view.read (Elt F) z) ⊢ Has (F := F) d i tZ z from .rfl) $$ H5
  iapply (wp_start d i tZ) $$ H5; iintro H5
  iterate 16
    iapply (wp_tab d i tA) $$ H4; iintro H4
  -- the chunks, in the order of the schedule
  ihave HD := (show (iprop(emp) : sProp 𝕄) ⊢ (oLoc d ↦[oSet d (4 * xRow i 0) (4 * xRow i 0)]{fullShare} poolOut z A X) from by rw [oSet_none, pointsTo_empty]) $$ []
  · iempintro
  iapply (wp_xStart d i b0 cc0_scratch6 (o := k0_off1 i 0#32) (r := xRow i 0) (off1_row i 0)) $$ HX H0 Hs0; iintro HX
  iapply (wp_seq d i)
  iapply (wp_end d i)
  rw [k0_part2_eq_skeleton]; unfold k0_part2_skel; iapply (wp_seq d i)
  iapply (wp_xWait d i (O := O) (W := W) b0 cc0_scratch6) $$ HX HO Hmw; iintro ⟨HX, H0, Hs0, HO⟩
  iapply (wp_xStart d i b1 cc0_scratch7 (o := k0_off1 i 128#32) (r := xRow i 1) (off1_row i 1)) $$ HX H1 Hs1; iintro HX
  iapply (wp_block d i b0 (Memref.isWhole_whole _) r0 (Memref.isWhole_whole _) z A hA ?_) $$ H0 H2
  rfl
  iintro %_ ⟨H0, H2⟩
  iapply (wp_out d i r0 cc0_scratch8 0 (by decide) (o := k0_off2 i 0#32) (off2_row i 0)) $$ HR H2 Ht0; iintro ⟨HF0, HR⟩
  iapply (wp_xWait d i (O := O) (W := W) b1 cc0_scratch7) $$ HX HO Hmw; iintro ⟨HX, H1, Hs1, HO⟩
  iapply (wp_xStart d i b0 cc0_scratch6 (o := k0_off3 i 256#32) (r := xRow i 2) (off3_row i 1)) $$ HX H0 Hs0; iintro HX
  iapply (wp_block d i b1 (Memref.isWhole_whole _) r1 (Memref.isWhole_whole _) z A hA ?_) $$ H1 H3
  rfl
  iintro %_ ⟨H1, H3⟩
  iapply (wp_out d i r1 cc0_scratch9 1 (by decide) (o := k0_off2 i 128#32) (off2_row i 1)) $$ HR H3 Ht1; iintro ⟨HF1, HR⟩
  iapply (wp_xWait d i (O := O) (W := W) b0 cc0_scratch6) $$ HX HO Hmw; iintro ⟨HX, H0, Hs0, HO⟩
  iapply (wp_xStart d i b1 cc0_scratch7 (o := k0_off3 i 384#32) (r := xRow i 3) (off3_row i 2)) $$ HX H1 Hs1; iintro HX
  iapply (wp_end d i)
  rw [k0_part3_eq_skeleton]; unfold k0_part3_skel; iapply (wp_seq d i)
  iapply (wp_outWait d i (O := O) (W := W) r0 cc0_scratch8 0 rfl) $$ HF0 HD HO Hmw; iintro ⟨HD, H2, Ht0, HO⟩
  iapply (wp_block d i b0 (Memref.isWhole_whole _) r0 (Memref.isWhole_whole _) z A hA ?_) $$ H0 H2
  rfl
  iintro %_ ⟨H0, H2⟩
  iapply (wp_out d i r0 cc0_scratch8 2 (by decide) (o := k0_off2 i 256#32) (off2_row i 2)) $$ HR H2 Ht0; iintro ⟨HF0, HR⟩
  iapply (wp_xWait d i (O := O) (W := W) b1 cc0_scratch7) $$ HX HO Hmw; iintro ⟨HX, H1, Hs1, HO⟩
  iapply (wp_xStart d i b0 cc0_scratch6 (o := k0_off3 i 512#32) (r := xRow i 4) (off3_row i 3)) $$ HX H0 Hs0; iintro HX
  iapply (wp_outWait d i (O := O) (W := W) r1 cc0_scratch9 1 rfl) $$ HF1 HD HO Hmw; iintro ⟨HD, H3, Ht1, HO⟩
  iapply (wp_block d i b1 (Memref.isWhole_whole _) r1 (Memref.isWhole_whole _) z A hA ?_) $$ H1 H3
  rfl
  iintro %_ ⟨H1, H3⟩
  iapply (wp_out d i r1 cc0_scratch9 3 (by decide) (o := k0_off2 i 384#32) (off2_row i 3)) $$ HR H3 Ht1; iintro ⟨HF1, HR⟩
  iapply (wp_xWait d i (O := O) (W := W) b0 cc0_scratch6) $$ HX HO Hmw; iintro ⟨HX, H0, Hs0, HO⟩
  iapply (wp_xStart d i b1 cc0_scratch7 (o := k0_off3 i 640#32) (r := xRow i 5) (off3_row i 4)) $$ HX H1 Hs1; iintro HX
  iapply (wp_end d i)
  rw [k0_part4_eq_skeleton]; unfold k0_part4_skel; iapply (wp_seq d i)
  iapply (wp_outWait d i (O := O) (W := W) r0 cc0_scratch8 2 rfl) $$ HF0 HD HO Hmw; iintro ⟨HD, H2, Ht0, HO⟩
  iapply (wp_block d i b0 (Memref.isWhole_whole _) r0 (Memref.isWhole_whole _) z A hA ?_) $$ H0 H2
  rfl
  iintro %_ ⟨H0, H2⟩
  iapply (wp_out d i r0 cc0_scratch8 4 (by decide) (o := k0_off2 i 512#32) (off2_row i 4)) $$ HR H2 Ht0; iintro ⟨HF0, HR⟩
  iapply (wp_xWait d i (O := O) (W := W) b1 cc0_scratch7) $$ HX HO Hmw; iintro ⟨HX, H1, Hs1, HO⟩
  iapply (wp_xStart d i b0 cc0_scratch6 (o := k0_off3 i 768#32) (r := xRow i 6) (off3_row i 5)) $$ HX H0 Hs0; iintro HX
  iapply (wp_outWait d i (O := O) (W := W) r1 cc0_scratch9 3 rfl) $$ HF1 HD HO Hmw; iintro ⟨HD, H3, Ht1, HO⟩
  iapply (wp_block d i b1 (Memref.isWhole_whole _) r1 (Memref.isWhole_whole _) z A hA ?_) $$ H1 H3
  rfl
  iintro %_ ⟨H1, H3⟩
  iapply (wp_out d i r1 cc0_scratch9 5 (by decide) (o := k0_off2 i 640#32) (off2_row i 5)) $$ HR H3 Ht1; iintro ⟨HF1, HR⟩
  iapply (wp_xWait d i (O := O) (W := W) b0 cc0_scratch6) $$ HX HO Hmw; iintro ⟨HX, H0, Hs0, HO⟩
  iapply (wp_xStart d i b1 cc0_scratch7 (o := k0_off3 i 896#32) (r := xRow i 7) (off3_row i 6)) $$ HX H1 Hs1; iintro HX
  iapply (wp_outWait d i (O := O) (W := W) r0 cc0_scratch8 4 rfl) $$ HF0 HD HO Hmw; iintro ⟨HD, H2, Ht0, HO⟩
  iapply (wp_end d i)
  rw [k0_part5_eq_skeleton]; unfold k0_part5_skel; iapply (wp_seq d i)
  iapply (wp_block d i b0 (Memref.isWhole_whole _) r0 (Memref.isWhole_whole _) z A hA ?_) $$ H0 H2
  rfl
  iintro %_ ⟨H0, H2⟩
  iapply (wp_out d i r0 cc0_scratch8 6 (by decide) (o := k0_off2 i 768#32) (off2_row i 6)) $$ HR H2 Ht0; iintro ⟨HF0, HR⟩
  iapply (wp_xWait d i (O := O) (W := W) b1 cc0_scratch7) $$ HX HO Hmw; iintro ⟨HX, H1, Hs1, HO⟩
  iapply (wp_xStart d i b0 cc0_scratch6 (o := k0_off3 i 1024#32) (r := xRow i 8) (off3_row i 7)) $$ HX H0 Hs0; iintro HX
  iapply (wp_outWait d i (O := O) (W := W) r1 cc0_scratch9 5 rfl) $$ HF1 HD HO Hmw; iintro ⟨HD, H3, Ht1, HO⟩
  iapply (wp_block d i b1 (Memref.isWhole_whole _) r1 (Memref.isWhole_whole _) z A hA ?_) $$ H1 H3
  rfl
  iintro %_ ⟨H1, H3⟩
  iapply (wp_out d i r1 cc0_scratch9 7 (by decide) (o := k0_off2 i 896#32) (off2_row i 7)) $$ HR H3 Ht1; iintro ⟨HF1, HR⟩
  iapply (wp_xWait d i (O := O) (W := W) b0 cc0_scratch6) $$ HX HO Hmw; iintro ⟨HX, H0, Hs0, HO⟩
  iapply (wp_xStart d i b1 cc0_scratch7 (o := k0_off3 i 1152#32) (r := xRow i 9) (off3_row i 8)) $$ HX H1 Hs1; iintro HX
  iapply (wp_outWait d i (O := O) (W := W) r0 cc0_scratch8 6 rfl) $$ HF0 HD HO Hmw; iintro ⟨HD, H2, Ht0, HO⟩
  iapply (wp_end d i)
  rw [k0_part6_eq_skeleton]; unfold k0_part6_skel; iapply (wp_seq d i)
  iapply (wp_block d i b0 (Memref.isWhole_whole _) r0 (Memref.isWhole_whole _) z A hA ?_) $$ H0 H2
  rfl
  iintro %_ ⟨H0, H2⟩
  iapply (wp_out d i r0 cc0_scratch8 8 (by decide) (o := k0_off2 i 1024#32) (off2_row i 8)) $$ HR H2 Ht0; iintro ⟨HF0, HR⟩
  iapply (wp_xWait d i (O := O) (W := W) b1 cc0_scratch7) $$ HX HO Hmw; iintro ⟨HX, H1, Hs1, HO⟩
  iapply (wp_xStart d i b0 cc0_scratch6 (o := k0_off3 i 1280#32) (r := xRow i 10) (off3_row i 9)) $$ HX H0 Hs0; iintro HX
  iapply (wp_outWait d i (O := O) (W := W) r1 cc0_scratch9 7 rfl) $$ HF1 HD HO Hmw; iintro ⟨HD, H3, Ht1, HO⟩
  iapply (wp_block d i b1 (Memref.isWhole_whole _) r1 (Memref.isWhole_whole _) z A hA ?_) $$ H1 H3
  rfl
  iintro %_ ⟨H1, H3⟩
  iapply (wp_out d i r1 cc0_scratch9 9 (by decide) (o := k0_off2 i 1152#32) (off2_row i 9)) $$ HR H3 Ht1; iintro ⟨HF1, HR⟩
  iapply (wp_xWait d i (O := O) (W := W) b0 cc0_scratch6) $$ HX HO Hmw; iintro ⟨HX, H0, Hs0, HO⟩
  iapply (wp_xStart d i b1 cc0_scratch7 (o := k0_off3 i 1408#32) (r := xRow i 11) (off3_row i 10)) $$ HX H1 Hs1; iintro HX
  iapply (wp_outWait d i (O := O) (W := W) r0 cc0_scratch8 8 rfl) $$ HF0 HD HO Hmw; iintro ⟨HD, H2, Ht0, HO⟩
  iapply (wp_end d i)
  rw [k0_part7_eq_skeleton]; unfold k0_part7_skel; iapply (wp_seq d i)
  iapply (wp_block d i b0 (Memref.isWhole_whole _) r0 (Memref.isWhole_whole _) z A hA ?_) $$ H0 H2
  rfl
  iintro %_ ⟨H0, H2⟩
  iapply (wp_out d i r0 cc0_scratch8 10 (by decide) (o := k0_off2 i 1280#32) (off2_row i 10)) $$ HR H2 Ht0; iintro ⟨HF0, HR⟩
  iapply (wp_xWait d i (O := O) (W := W) b1 cc0_scratch7) $$ HX HO Hmw; iintro ⟨HX, H1, Hs1, HO⟩
  iapply (wp_xStart d i b0 cc0_scratch6 (o := k0_off3 i 1536#32) (r := xRow i 12) (off3_row i 11)) $$ HX H0 Hs0; iintro HX
  iapply (wp_outWait d i (O := O) (W := W) r1 cc0_scratch9 9 rfl) $$ HF1 HD HO Hmw; iintro ⟨HD, H3, Ht1, HO⟩
  iapply (wp_block d i b1 (Memref.isWhole_whole _) r1 (Memref.isWhole_whole _) z A hA ?_) $$ H1 H3
  rfl
  iintro %_ ⟨H1, H3⟩
  iapply (wp_out d i r1 cc0_scratch9 11 (by decide) (o := k0_off2 i 1408#32) (off2_row i 11)) $$ HR H3 Ht1; iintro ⟨HF1, HR⟩
  iapply (wp_xWait d i (O := O) (W := W) b0 cc0_scratch6) $$ HX HO Hmw; iintro ⟨HX, H0, Hs0, HO⟩
  iapply (wp_xStart d i b1 cc0_scratch7 (o := k0_off3 i 1664#32) (r := xRow i 13) (off3_row i 12)) $$ HX H1 Hs1; iintro HX
  iapply (wp_outWait d i (O := O) (W := W) r0 cc0_scratch8 10 rfl) $$ HF0 HD HO Hmw; iintro ⟨HD, H2, Ht0, HO⟩
  iapply (wp_block d i b0 (Memref.isWhole_whole _) r0 (Memref.isWhole_whole _) z A hA ?_) $$ H0 H2
  rfl
  iintro %_ ⟨H0, H2⟩
  iapply (wp_end d i)
  rw [k0_part8_eq_skeleton]; unfold k0_part8_skel; iapply (wp_seq d i)
  iapply (wp_out d i r0 cc0_scratch8 12 (by decide) (o := k0_off2 i 1536#32) (off2_row i 12)) $$ HR H2 Ht0; iintro ⟨HF0, HR⟩
  iapply (wp_xWait d i (O := O) (W := W) b1 cc0_scratch7) $$ HX HO Hmw; iintro ⟨HX, H1, Hs1, HO⟩
  iapply (wp_xStart d i b0 cc0_scratch6 (o := k0_off3 i 1792#32) (r := xRow i 14) (off3_row i 13)) $$ HX H0 Hs0; iintro HX
  iapply (wp_outWait d i (O := O) (W := W) r1 cc0_scratch9 11 rfl) $$ HF1 HD HO Hmw; iintro ⟨HD, H3, Ht1, HO⟩
  iapply (wp_block d i b1 (Memref.isWhole_whole _) r1 (Memref.isWhole_whole _) z A hA ?_) $$ H1 H3
  rfl
  iintro %_ ⟨H1, H3⟩
  iapply (wp_out d i r1 cc0_scratch9 13 (by decide) (o := k0_off2 i 1664#32) (off2_row i 13)) $$ HR H3 Ht1; iintro ⟨HF1, HR⟩
  iapply (wp_xWait d i (O := O) (W := W) b0 cc0_scratch6) $$ HX HO Hmw; iintro ⟨HX, H0, Hs0, HO⟩
  iapply (wp_xStart d i b1 cc0_scratch7 (o := k0_off3 i 1920#32) (r := xRow i 15) (off3_row i 14)) $$ HX H1 Hs1; iintro HX
  iapply (wp_outWait d i (O := O) (W := W) r0 cc0_scratch8 12 rfl) $$ HF0 HD HO Hmw; iintro ⟨HD, H2, Ht0, HO⟩
  iapply (wp_block d i b0 (Memref.isWhole_whole _) r0 (Memref.isWhole_whole _) z A hA ?_) $$ H0 H2
  rfl
  iintro %_ ⟨H0, H2⟩
  iapply (wp_end d i)
  iapply (wp_out d i r0 cc0_scratch8 14 (by decide) (o := k0_off2 i 1792#32) (off2_row i 14)) $$ HR H2 Ht0; iintro ⟨HF0, HR⟩
  iapply (wp_xWait d i (O := O) (W := W) b1 cc0_scratch7) $$ HX HO Hmw; iintro ⟨HX, H1, Hs1, HO⟩
  iapply (wp_outWait d i (O := O) (W := W) r1 cc0_scratch9 13 rfl) $$ HF1 HD HO Hmw; iintro ⟨HD, H3, Ht1, HO⟩
  iapply (wp_block d i b1 (Memref.isWhole_whole _) r1 (Memref.isWhole_whole _) z A hA ?_) $$ H1 H3
  rfl
  iintro %_ ⟨H1, H3⟩
  iapply (wp_out d i r1 cc0_scratch9 15 (by decide) (o := k0_off2 i 1920#32) (off2_row i 15)) $$ HR H3 Ht1; iintro ⟨HF1, HR⟩
  iapply (wp_outWait d i (O := O) (W := W) r0 cc0_scratch8 14 rfl) $$ HF0 HD HO Hmw; iintro ⟨HD, H2, Ht0, HO⟩
  iapply (wp_outWait d i (O := O) (W := W) r1 cc0_scratch9 15 rfl) $$ HF1 HD HO Hmw; iintro ⟨HD, H3, Ht1, HO⟩
  iapply (wp_end d i)
  isplitl [HX HA Hz HD]
  · isplitl [HX]; · iexact HX
    isplitl [HA]; · iexact HA
    isplitl [Hz]; · iexact Hz
    iexact HD
  ihave H4 := (any_of_has (F := F) d i tA A) $$ H4
  ihave H5 := (any_of_has (F := F) d i tZ z) $$ H5
  isplitl [H0 H1 H2 H3 H4 H5 Hbufs]
  · isplitl [H0]; · iapply (any_elim (F := F) d i b0 (View.set_whole _)); iexact H0
    isplitl [H1]; · iapply (any_elim (F := F) d i b1 (View.set_whole _)); iexact H1
    isplitl [H2]; · iapply (any_elim (F := F) d i r0 (View.set_whole _)); iexact H2
    isplitl [H3]; · iapply (any_elim (F := F) d i r1 (View.set_whole _)); iexact H3
    isplitl [H4]; · iapply (any_elim (F := F) d i tA (View.set_whole _)); iexact H4
    isplitl [H5]; · iapply (any_elim (F := F) d i tZ (View.set_whole _)); iexact H5
    iexact Hbufs
  isplitl [Hs0 Hs1 Ht0 Ht1 Hsa Hsz Hsems]
  · isplitl [Hs0]; · iexact Hs0
    isplitl [Hs1]; · iexact Hs1
    isplitl [Ht0]; · iexact Ht0
    isplitl [Ht1]; · iexact Ht1
    isplitl [Hsa]; · iexact Hsa
    isplitl [Hsz]; · iexact Hsz
    iexact Hsems
  unfold Ow
  iexact HO

end Cert.Proof.Pool

end
-- ==== Proof.Host.lean ====
/-
  What runs before the kernel is launched: the host operations as five lines, and the arrays they leave for the
  kernel — the table of columns (dead entries replaced by a live one of the same output), the sixteen floors, and
  the input as rows.
-/
module

public import proofs.«01_k».proof.Proof.Setup

@[expose] public section

noncomputable section

namespace Cert.Proof.Pool

open Cert.KernelIdeal Cert.KernelIdeal.Gen

open Idealize.ShloMosaic Idealize.ShloMosaic.ValueIdx Idealize.ShloMosaic.StableHlo
open Idealize.SL.Sem

variable {F : FTy → Type} [FloatOps F]

/-! ## The values -/

/-- For each output, the row of the mask where its largest entry is first found. -/
def firstLive (mk : S64x4.Idx → F .f32) : S4.Idx → BitVec 32 := fun j =>
  (Host.argReduce reducer_argmax_f32_i32 mk (iotaInDim S64x4 32 0) (constant S_ .f32 0xFF800000#32) (constantI S_ 32 0#32)
    reducesTo_S64x4_S4_d0 h_S_ j).2

/-- The rows to look up, as the look-up takes them: a negative one counted from the end. -/
def liveRow (f : S1x4.Idx → BitVec 32) : S1x4x1.Idx → BitVec 32 :=
  shapeCast S1x4x1 (select (cmpi .slt f (broadcastInDim S1x4 ![] bcast_S_S1x4 (constantI S_ 32 0#32)))
    (addi f (broadcastInDim S1x4 ![] bcast_S_S1x4 (constantI S_ 32 64#32))) f) shapeCasts_S1x4_S1x4x1

/-- The index found at the given row of each output's column; the smallest word if the row is out of range. -/
def liveIdx (ix : S64x4.Idx → BitVec 32) (f : S1x4.Idx → BitVec 32) : S1x4.Idx → BitVec 32 :=
  select
    (Host.reduce IntOp.andi
      (andi (cmpi .sge (liveRow f) (broadcastInDim S1x4x1 ![] bcast_S_S1x4x1 (constantI S_ 32 0#32)))
        (cmpi .sle (liveRow f) (broadcastInDim S1x4x1 ![0, 1, 2] bcast_S1x1x1_S1x4x1_0_1_2
          (broadcastInDim S1x1x1 ![2] bcast_S1_S1x1x1_2 (constantI S1 32 63#32)))))
      (constantI S_ 1 1#1) reducesTo_S1x4x1_S1x4_d2 h_S_)
    (Host.gather gather_S64x4_S1x4x1_S1x4_n_0_1_1_0_2_11 ix (liveRow f))
    (broadcastInDim S1x4 ![] bcast_S_S1x4 (constantI S_ 32 2147483648#32))

/-- The table with dead entries replaced by a live one of the same output. -/
def liveTab (mk : S64x4.Idx → F .f32) (ix : S64x4.Idx → BitVec 32) (lv : S1x4.Idx → BitVec 32) : S64x4.Idx → BitVec 32 :=
  select (cmpf .ogt mk (broadcastInDim S64x4 ![] bcast_S_S64x4 (constant S_ .f32 0x00000000#32))) ix
    (broadcastInDim S64x4 ![0, 1] bcast_S1x4_S64x4_0_1 lv)

/-- The kernel's table of columns. -/
def adjOf (mk : S64x4.Idx → F .f32) (ix : S64x4.Idx → BitVec 32) : S256.Idx → BitVec 32 :=
  shapeCast S256 (liveTab mk ix (liveIdx ix (broadcastInDim S1x4 ![1] bcast_S4_S1x4_1 (firstLive mk)))) shapeCasts_S64x4_S256

/-- The kernel's floors: zero on a lane that some dead entry falls on, minus infinity on the others. -/
def floorOf (mk : S64x4.Idx → F .f32) : S16.Idx → F .f32 :=
  select
    (Host.reduce IntOp.ori
      (cmpf .oeq (shapeCast S16x16 mk shapeCasts_S64x4_S16x16)
        (broadcastInDim S16x16 ![] bcast_S_S16x16 (constant S_ .f32 0x00000000#32)))
      (constantI S_ 1 0#1) reducesTo_S16x16_S16_d0 h_S_)
    (broadcastInDim S16 ![] bcast_S_S16 (constant S_ .f32 0x00000000#32))
    (broadcastInDim S16 ![] bcast_S_S16 (constant S_ .f32 0xFF800000#32))

/-- The input as rows. -/
def rowsOf (x : S32x2048x256.Idx → F .f32) : S65536x256.Idx → F .f32 := shapeCast S65536x256 x shapeCasts_S32x2048x256_S65536x256

/-! ## The operations -/

abbrev opsA : List (HloOp τ sig (Elt F)) :=
  [ TRef.nullary main_call0.v0 (iotaInDim S64x4 32 0),
    TRef.nullary main_call0.cst (constant S_ .f32 0xFF800000#32),
    TRef.nullary main_call0.c (constantI S_ 32 0#32),
    TRef.quaternary (.of (T := ⟨S64x4, .f32⟩) main_arg2) main_call0.v0 main_call0.cst main_call0.c main_call0.v1_0
      (fun x y u v j => (Host.argReduce reducer_argmax_f32_i32 x y u v reducesTo_S64x4_S4_d0 h_S_ j).1),
    TRef.quaternary (.of (T := ⟨S64x4, .f32⟩) main_arg2) main_call0.v0 main_call0.cst main_call0.c main_call0.v1_1
      (fun x y u v j => (Host.argReduce reducer_argmax_f32_i32 x y u v reducesTo_S64x4_S4_d0 h_S_ j).2) ]

abbrev opsA' : List (HloOp τ sig (Elt F)) :=
  [ StableHlo.unary main_v0 main_v1 (broadcastInDim S1x4 ![1] bcast_S4_S1x4_1 : (⟨S4, .i32⟩ : BufTy).Contents (Elt F) → (⟨S1x4, .i32⟩ : BufTy).Contents (Elt F)) ]

abbrev opsB : List (HloOp τ sig (Elt F)) :=
  [ TRef.nullary main_call1.c (constantI S_ 32 0#32),
    TRef.unary main_call1.c main_call1.v0 (broadcastInDim S1x4 ![] bcast_S_S1x4),
    TRef.binary (.of (T := ⟨S1x4, .i32⟩) main_v1) main_call1.v0 main_call1.v1 (cmpi .slt),
    TRef.nullary main_call1.c_0 (constantI S_ 32 64#32),
    TRef.unary main_call1.c_0 main_call1.v2 (broadcastInDim S1x4 ![] bcast_S_S1x4),
    TRef.binary (.of (T := ⟨S1x4, .i32⟩) main_v1) main_call1.v2 main_call1.v3 addi,
    TRef.ternary main_call1.v1 main_call1.v3 (.of (T := ⟨S1x4, .i32⟩) main_v1) main_call1.v4 select,
    TRef.reshape main_call1.v4 main_call1.v5 (rfl : (.i32 : EltTy) = .i32) shapeCasts_S1x4_S1x4x1,
    TRef.nullary main_call1.c_1 (constantI S1 32 63#32),
    TRef.nullary main_call1.c_2 (constantI S_ 32 0#32),
    TRef.unary main_call1.c_2 main_call1.v6 (broadcastInDim S1x4x1 ![] bcast_S_S1x4x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1x4x1 ![0, 1, 2] bcast_S1x1x1_S1x4x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x4x1_S1x4_d2 h_S_),
    TRef.binary (.of (T := ⟨S64x4, .i32⟩) main_arg1) main_call1.v5 main_call1.v13 (fun x i => Host.gather gather_S64x4_S1x4x1_S1x4_n_0_1_1_0_2_11 x i),
    TRef.nullary main_call1.c_4 (constantI S_ 32 2147483648#32),
    TRef.unary main_call1.c_4 main_call1.v14 (broadcastInDim S1x4 ![] bcast_S_S1x4),
    TRef.ternary main_call1.v12 main_call1.v13 main_call1.v14 main_call1.v15 select ]

abbrev opsB' : List (HloOp τ sig (Elt F)) :=
  [ StableHlo.nullary main_cst (constant S_ .f32 0x00000000#32),
    StableHlo.unary main_cst main_v3 (broadcastInDim S64x4 ![] bcast_S_S64x4 : (⟨S_, .f32⟩ : BufTy).Contents (Elt F) → (⟨S64x4, .f32⟩ : BufTy).Contents (Elt F)),
    StableHlo.binary main_arg2 main_v3 main_v4 (cmpf .ogt : (⟨S64x4, .f32⟩ : BufTy).Contents (Elt F) → (⟨S64x4, .f32⟩ : BufTy).Contents (Elt F) → (⟨S64x4, .i1⟩ : BufTy).Contents (Elt F)) ]

abbrev opsC : List (HloOp τ sig (Elt F)) :=
  [ TRef.unary (.of (T := ⟨S1x4, .i32⟩) main_v2) main_call2.v0 (broadcastInDim S64x4 ![0, 1] bcast_S1x4_S64x4_0_1),
    TRef.ternary (.of (T := ⟨S64x4, .i1⟩) main_v4) (.of (T := ⟨S64x4, .i32⟩) main_arg1) main_call2.v0 main_call2.v1 select ]

abbrev opsC' : List (HloOp τ sig (Elt F)) :=
  [ StableHlo.reshape main_v5 main_v6 (rfl : (.i32 : EltTy) = .i32) shapeCasts_S64x4_S256,
    StableHlo.reshape main_arg2 main_v7 (rfl : (.f32 : EltTy) = .f32) shapeCasts_S64x4_S16x16,
    StableHlo.nullary main_cst_0 (constant S_ .f32 0x00000000#32),
    StableHlo.unary main_cst_0 main_v8 (broadcastInDim S16x16 ![] bcast_S_S16x16 : (⟨S_, .f32⟩ : BufTy).Contents (Elt F) → (⟨S16x16, .f32⟩ : BufTy).Contents (Elt F)),
    StableHlo.binary main_v7 main_v8 main_v9 (cmpf .oeq : (⟨S16x16, .f32⟩ : BufTy).Contents (Elt F) → (⟨S16x16, .f32⟩ : BufTy).Contents (Elt F) → (⟨S16x16, .i1⟩ : BufTy).Contents (Elt F)),
    StableHlo.nullary main_c (constantI S_ 1 0#1),
    StableHlo.binary main_v9 main_c main_v10 ((fun x v => Host.reduce IntOp.ori x v reducesTo_S16x16_S16_d0 h_S_) : (⟨S16x16, .i1⟩ : BufTy).Contents (Elt F) → (⟨S_, .i1⟩ : BufTy).Contents (Elt F) → (⟨S16, .i1⟩ : BufTy).Contents (Elt F)),
    StableHlo.nullary main_cst_1 (constant S_ .f32 0x00000000#32),
    StableHlo.nullary main_cst_2 (constant S_ .f32 0xFF800000#32) ]

abbrev opsD : List (HloOp τ sig (Elt F)) :=
  [ TRef.unary (.of (T := ⟨S_, .f32⟩) main_cst_1) main_call3.v0 (broadcastInDim S16 ![] bcast_S_S16),
    TRef.unary (.of (T := ⟨S_, .f32⟩) main_cst_2) main_call3.v1 (broadcastInDim S16 ![] bcast_S_S16),
    TRef.ternary (.of (T := ⟨S16, .i1⟩) main_v10) main_call3.v0 main_call3.v1 main_call3.v2 select ]

abbrev opsD' : List (HloOp τ sig (Elt F)) :=
  [ StableHlo.unary main_v11 main_v12 (id : (⟨S16, .f32⟩ : BufTy).Contents (Elt F) → (⟨S16, .f32⟩ : BufTy).Contents (Elt F)),
    StableHlo.reshape main_arg0 main_v13 (rfl : (.f32 : EltTy) = .f32) shapeCasts_S32x2048x256_S65536x256 ]

/-- The operation after the kernel. -/
abbrev opZ : HloOp τ sig (Elt F) := StableHlo.reshape main_v14 main_v15 (rfl : (.f32 : EltTy) = .f32) shapeCasts_S262144_S32x2048x4

/-- The operations before the kernel: the table's two lines, then the floors' and the rows'. -/
abbrev ops : List (HloOp τ sig (Elt F)) := (opsA ++ opsA') ++ (opsB ++ (opsB' ++ (opsC ++ (opsC' ++ (opsD ++ opsD')))))

theorem body_A : fn_argmax.body (F := F) (.of main_arg2) main_call0 = seq opsA := rfl
theorem body_B : fn_take_along_axis.body (F := F) (.of main_arg1) (.of main_v1) main_call1 = seq opsB := rfl
theorem body_C : fn_where.body (F := F) (.of main_v4) (.of main_arg1) (.of main_v2) main_call2 = seq opsC := rfl
theorem body_D : fn_where_0.body (F := F) (.of main_v10) (.of main_cst_1) (.of main_cst_2) main_call3 = seq opsD := rfl

/-- The program: the operations, the kernel, one more operation. -/
theorem main_eq (d : Dev nD) :
    main (F := F) d = seq ops >>= fun _ => (sc (F := F)).run d 0 >>= fun _ => hlo rfl opZ fun _ => .ret ⟨⟩ := by
  unfold main
  rw [body_A, body_B, body_C, body_D]
  simp only [ops, seq_append, bind_assoc]
  rfl

/-! ## What the operations leave -/

variable (V : Valuation τ sig (Elt F))

theorem after_append (l₁ l₂ : List (HloOp τ sig (Elt F))) : after (l₁ ++ l₂) V = after l₂ (after l₁ V) := by
  induction l₁ generalizing V with
  | nil => rfl
  | cons op l ih => exact ih (op.result V)

theorem A_main_v1 : after (opsA ++ opsA') V (Proc.devRef .tc main_v1)
    = broadcastInDim S1x4 ![1] bcast_S4_S1x4_1 (firstLive (V (Proc.devRef .tc main_arg2))) := by
  simp only [opsA, opsA', List.cons_append, List.nil_append, TRef.nullary, TRef.quaternary, TRef.toBuf, TRef.ofBuf, cast_eq]
  after_results_simp
  rfl

theorem B_main_v2 : after opsB V (Proc.devRef .tc main_v2)
    = liveIdx (V (Proc.devRef .tc main_arg1)) (V (Proc.devRef .tc main_v1)) := by
  simp only [opsB, TRef.nullary, TRef.unary, TRef.binary, TRef.ternary, TRef.reshape, TRef.toBuf, TRef.ofBuf, cast_eq]
  after_results_simp
  rfl

theorem C_main_v6 : after (opsB' ++ (opsC ++ opsC')) V (Proc.devRef .tc main_v6)
    = shapeCast S256 (liveTab (V (Proc.devRef .tc main_arg2)) (V (Proc.devRef .tc main_arg1)) (V (Proc.devRef .tc main_v2))) shapeCasts_S64x4_S256 := by
  simp only [opsB', opsC, opsC', List.cons_append, List.nil_append, TRef.nullary, TRef.unary, TRef.binary, TRef.ternary, TRef.reshape, TRef.toBuf, TRef.ofBuf, cast_eq]
  after_results_simp
  rfl

theorem D_main_v12 : after (opsC' ++ (opsD ++ opsD')) V (Proc.devRef .tc main_v12) = floorOf (V (Proc.devRef .tc main_arg2)) := by
  simp only [opsC', opsD, opsD', List.cons_append, List.nil_append, TRef.nullary, TRef.unary, TRef.binary, TRef.ternary, TRef.reshape, TRef.toBuf, TRef.ofBuf, cast_eq]
  after_results_simp
  rfl

theorem D_main_v13 : after opsD' V (Proc.devRef .tc main_v13) = rowsOf (V (Proc.devRef .tc main_arg0)) := by
  after_results_simp
  rfl

/-! ## What each line writes, and the arrays after all of them -/

abbrev WA : List (Ref sig .tc) := [main_call0_v0, main_call0_cst, main_call0_c, main_call0_v1_0, main_v0]
abbrev WA' : List (Ref sig .tc) := [main_v1]
abbrev WB : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_c_4, main_call1_v14, main_v2]
abbrev WB' : List (Ref sig .tc) := [main_cst, main_v3, main_v4]
abbrev WC : List (Ref sig .tc) := [main_call2_v0, main_v5]
abbrev WC' : List (Ref sig .tc) := [main_v6, main_v7, main_cst_0, main_v8, main_v9, main_c, main_v10, main_cst_1, main_cst_2]
abbrev WD : List (Ref sig .tc) := [main_call3_v0, main_call3_v1, main_v11]
abbrev WD' : List (Ref sig .tc) := [main_v12, main_v13]

theorem keepA {r : Ref sig .tc} (hr : r ∉ WA) : after opsA V (Proc.devRef .tc r) = V (Proc.devRef .tc r) :=
  after_of_writes_sub opsA V (W := WA) (forall_writes_sub_of_map rfl) hr
theorem keepA' {r : Ref sig .tc} (hr : r ∉ WA') : after opsA' V (Proc.devRef .tc r) = V (Proc.devRef .tc r) :=
  after_of_writes_sub opsA' V (W := WA') (forall_writes_sub_of_map rfl) hr
theorem keepB {r : Ref sig .tc} (hr : r ∉ WB) : after opsB V (Proc.devRef .tc r) = V (Proc.devRef .tc r) :=
  after_of_writes_sub opsB V (W := WB) (forall_writes_sub_of_map rfl) hr
theorem keepB' {r : Ref sig .tc} (hr : r ∉ WB') : after opsB' V (Proc.devRef .tc r) = V (Proc.devRef .tc r) :=
  after_of_writes_sub opsB' V (W := WB') (forall_writes_sub_of_map rfl) hr
theorem keepC {r : Ref sig .tc} (hr : r ∉ WC) : after opsC V (Proc.devRef .tc r) = V (Proc.devRef .tc r) :=
  after_of_writes_sub opsC V (W := WC) (forall_writes_sub_of_map rfl) hr
theorem keepC' {r : Ref sig .tc} (hr : r ∉ WC') : after opsC' V (Proc.devRef .tc r) = V (Proc.devRef .tc r) :=
  after_of_writes_sub opsC' V (W := WC') (forall_writes_sub_of_map rfl) hr
theorem keepD {r : Ref sig .tc} (hr : r ∉ WD) : after opsD V (Proc.devRef .tc r) = V (Proc.devRef .tc r) :=
  after_of_writes_sub opsD V (W := WD) (forall_writes_sub_of_map rfl) hr
theorem keepD' {r : Ref sig .tc} (hr : r ∉ WD') : after opsD' V (Proc.devRef .tc r) = V (Proc.devRef .tc r) :=
  after_of_writes_sub opsD' V (W := WD') (forall_writes_sub_of_map rfl) hr

/-- A buffer none of the lines writes. -/
theorem keep {r : Ref sig .tc} (hr : r ∉ WA ++ WA' ++ WB ++ WB' ++ WC ++ WC' ++ WD ++ WD') :
    after ops V (Proc.devRef .tc r) = V (Proc.devRef .tc r) := by
  simp only [List.mem_append, not_or] at hr
  obtain ⟨⟨⟨⟨⟨⟨⟨hA, hA'⟩, hB⟩, hB'⟩, hC⟩, hC'⟩, hD⟩, hD'⟩ := hr
  simp only [ops, after_append]
  rw [keepD' _ hD', keepD _ hD, keepC' _ hC', keepC _ hC, keepB' _ hB', keepB _ hB, keepA' _ hA', keepA _ hA]

theorem ops_main_v6 : after ops V (Proc.devRef .tc main_v6) = adjOf (V (Proc.devRef .tc main_arg2)) (V (Proc.devRef .tc main_arg1)) := by
  have h1 := A_main_v1 V
  have h3 := fun V : Valuation τ sig (Elt F) => C_main_v6 V
  simp only [after_append] at h1 h3
  simp only [ops, after_append]
  rw [keepD' _ (by decide), keepD _ (by decide), h3, keepB _ (by decide), keepB _ (by decide), B_main_v2, h1,
    keepA' _ (by decide), keepA' _ (by decide), keepA _ (by decide), keepA _ (by decide)]
  rfl

theorem ops_main_v12 : after ops V (Proc.devRef .tc main_v12) = floorOf (V (Proc.devRef .tc main_arg2)) := by
  have h := fun V : Valuation τ sig (Elt F) => D_main_v12 V
  simp only [after_append] at h
  simp only [ops, after_append]
  rw [h, keepC _ (by decide), keepB' _ (by decide), keepB _ (by decide), keepA' _ (by decide), keepA _ (by decide)]

theorem ops_main_v13 : after ops V (Proc.devRef .tc main_v13) = rowsOf (V (Proc.devRef .tc main_arg0)) := by
  simp only [ops, after_append]
  rw [D_main_v13, keepD _ (by decide), keepC' _ (by decide), keepC _ (by decide), keepB' _ (by decide), keepB _ (by decide),
    keepA' _ (by decide), keepA _ (by decide)]

theorem ops_fresh : ∀ op ∈ (ops : List (HloOp τ sig (Elt F))), op.fresh = ∅ :=
  List.forall_iff_forall_mem.mp (forall_fresh_of_map rfl)

theorem subA : (opsA : List (HloOp τ sig (Elt F))).Forall fun op => op.bufs ⊆ tcRefs τ sig :=
  ⟨nullary_bufs_sub .., nullary_bufs_sub .., nullary_bufs_sub .., quaternary_bufs_sub .., quaternary_bufs_sub ..⟩
theorem subA' : (opsA' : List (HloOp τ sig (Elt F))).Forall fun op => op.bufs ⊆ tcRefs τ sig :=
  unary_bufs_sub ..
theorem subB : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem subB' : (opsB' : List (HloOp τ sig (Elt F))).Forall fun op => op.bufs ⊆ tcRefs τ sig :=
  ⟨nullary_bufs_sub .., unary_bufs_sub .., binary_bufs_sub ..⟩
theorem subC : (opsC : List (HloOp τ sig (Elt F))).Forall fun op => op.bufs ⊆ tcRefs τ sig :=
  ⟨unary_bufs_sub .., ternary_bufs_sub ..⟩
theorem subC' : (opsC' : List (HloOp τ sig (Elt F))).Forall fun op => op.bufs ⊆ tcRefs τ sig :=
  ⟨reshape_bufs_sub .., reshape_bufs_sub .., nullary_bufs_sub .., unary_bufs_sub .., binary_bufs_sub .., nullary_bufs_sub .., binary_bufs_sub .., nullary_bufs_sub .., nullary_bufs_sub ..⟩
theorem subD : (opsD : List (HloOp τ sig (Elt F))).Forall fun op => op.bufs ⊆ tcRefs τ sig :=
  ⟨unary_bufs_sub .., unary_bufs_sub .., ternary_bufs_sub ..⟩
theorem subD' : (opsD' : List (HloOp τ sig (Elt F))).Forall fun op => op.bufs ⊆ tcRefs τ sig :=
  ⟨unary_bufs_sub .., reshape_bufs_sub ..⟩

theorem ops_sub : ∀ op ∈ (ops : List (HloOp τ sig (Elt F))), op.bufs ⊆ tcRefs τ sig := by
  intro op hop
  simp only [ops, List.mem_append] at hop
  rcases hop with (h | h) | h | h | h | h | h | h
  · exact List.forall_iff_forall_mem.mp subA op h
  · exact List.forall_iff_forall_mem.mp subA' op h
  · exact List.forall_iff_forall_mem.mp subB op h
  · exact List.forall_iff_forall_mem.mp subB' op h
  · exact List.forall_iff_forall_mem.mp subC op h
  · exact List.forall_iff_forall_mem.mp subC' op h
  · exact List.forall_iff_forall_mem.mp subD op h
  · exact List.forall_iff_forall_mem.mp subD' op h

end Cert.Proof.Pool

end
-- ==== Proof.Launch.lean ====
/-
  The run of the whole program: what each SparseCore and each of its sixteen tiles takes and brings back, the
  operations around the launch, and what every execution ends with.
-/
module

public import proofs.«01_k».proof.Proof.Tile
public import proofs.«01_k».proof.Proof.Host
public import Idealize.ShloMosaic.Lib.Pipeline.Frame

@[expose] public section

noncomputable section

namespace Cert.Proof.Pool

open Cert.KernelIdeal Cert.KernelIdeal.Gen

open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

local notation "𝕄" => MM F

variable (m : (ℓ : Loc nD τ sig) → Buf (Elt F) ℓ) (ρ : Dev nD → PrngReg)

/-! ## The arrays the kernel is given, and what it leaves -/

/-- A device's arrays when the program starts, and when the kernel is launched. -/
abbrev V0 (d : Dev nD) : Valuation τ sig (Elt F) := fun b => m (d, b)
def V1 (d : Dev nD) : Valuation τ sig (Elt F) := after ops (V0 m d)

abbrev xArr (d : Dev nD) : Buf (Elt F) (xLoc d) := V1 m d (Proc.devRef .tc main_v13)
abbrev aArr (d : Dev nD) : Buf (Elt F) (aLoc d) := V1 m d (Proc.devRef .tc main_v6)
abbrev zArr (d : Dev nD) : Buf (Elt F) (zLoc d) := V1 m d (Proc.devRef .tc main_v12)
abbrev oArr (d : Dev nD) : Buf (Elt F) (oLoc d) := V1 m d (Proc.devRef .tc main_v14)
abbrev outArr (d : Dev nD) : Buf (Elt F) (oLoc d) := poolOut (zArr m d) (aArr m d) (xArr m d)

/-! ## What the tiles take -/

def coordsV (c : Fin (grid0.bound 0)) (s : Fin (grid0.bound 1)) : grid0.Coords :=
  fun | 0 => c | 1 => s | ⟨_ + 2, h⟩ => absurd h (Nat.not_lt.2 (Nat.le_add_left _ _))

/-- The share of an array that every tile reads: the full share dealt to the thirty-two tiles. -/
def shareOf (p : Fin 2 × Fin 16) : PosShare TreeShare :=
  Transfers.dealOf fullShare (Finset.univ : Finset (Fin (2 * 16))) (finProdFinEquiv p)

/-- The elements of the result that a tile writes. -/
def tileSet (d : Dev nD) (p : Fin 2 × Fin 16) : Finset (Idx (oLoc d)) :=
  oSet d (4 * xRow (coordsV p.1 p.2) 0) (4 * xRow (coordsV p.1 p.2) 16)

theorem tileSet_bounds (p : Fin 2 × Fin 16) : 4 * xRow (coordsV p.1 p.2) 0 = 8192 * (2 * p.2.val + p.1.val)
    ∧ 4 * xRow (coordsV p.1 p.2) 16 = 8192 * (2 * p.2.val + p.1.val) + 8192 := by
  have h0 : ((coordsV p.1 p.2) 0).val = p.1.val := rfl
  have h1 : ((coordsV p.1 p.2) 1).val = p.2.val := rfl
  unfold xRow; rw [h0, h1]; constructor <;> omega

theorem mem_tileSet (d : Dev nD) (p : Fin 2 × Fin 16) (j : S262144.Idx) :
    j ∈ tileSet d p ↔ (j 0).val / 8192 = 2 * p.2.val + p.1.val := by
  unfold tileSet oSet
  rw [(tileSet_bounds p).1, (tileSet_bounds p).2, Finset.mem_filter]
  simp only [Finset.mem_univ, _root_.true_and]
  omega

theorem tileSet_disjoint (d : Dev nD) : ∀ p ∈ (Finset.univ : Finset (Fin 2 × Fin 16)), ∀ p' ∈ (Finset.univ : Finset (Fin 2 × Fin 16)),
    p ≠ p' → Disjoint (tileSet d p) (tileSet d p') := by
  intro p _ p' _ h
  rw [Finset.disjoint_left]
  intro j hj hj'
  rw [mem_tileSet] at hj hj'
  have h1 := p.1.isLt; have h2 := p'.1.isLt
  exact h (Prod.ext (Fin.ext (by omega)) (Fin.ext (by omega)))

theorem tileSet_cover (d : Dev nD) : (Finset.univ : Finset (Fin 2 × Fin 16)).biUnion (tileSet d) = Finset.univ := by
  refine Finset.eq_univ_of_forall fun j => ?_
  have hj : ((j : S262144.Idx) 0).val < 262144 := ((j : S262144.Idx) 0).isLt
  refine Finset.mem_biUnion.mpr ⟨(⟨((j : S262144.Idx) 0).val / 8192 % 2, by omega⟩, ⟨((j : S262144.Idx) 0).val / 8192 / 2, by omega⟩), Finset.mem_univ _, ?_⟩
  rw [mem_tileSet]
  show _ = 2 * (((j : S262144.Idx) 0).val / 8192 / 2) + ((j : S262144.Idx) 0).val / 8192 % 2
  omega

/-- A tile's holdings, the result at `f`. -/
abbrev tileRes (d : Dev nD) (f : Buf (Elt F) (oLoc d)) (c : Fin 2) (i : Fin 16) : sProp 𝕄 :=
  tileIn d (coordsV c i) (shareOf (c, i)) (xArr m d) (aArr m d) (zArr m d) f

omit [FloatOps F] in
/-- An array dealt to the tiles for reading. -/
theorem pts_shares {ℓ : Loc nD τ sig} (f : Buf (Elt F) ℓ) :
    (ℓ ↦{fullShare} f : sProp 𝕄) = bigSep Finset.univ fun c : Fin 2 => bigSep Finset.univ fun i : Fin 16 => ℓ ↦{shareOf (c, i)} f := by
  rw [Transfers.pointsTo_deal (Finset.univ : Finset (Fin (2 * 16))) ⟨0, Finset.mem_univ _⟩ fullShare,
    bigSep_univ_equiv finProdFinEquiv, bigSep_univ_prod]
  rfl

omit [FloatOps F] in
/-- The result cut into the tiles' parts. -/
theorem pts_parts (d : Dev nD) (f : Buf (Elt F) (oLoc d)) :
    (oLoc d ↦{fullShare} f : sProp 𝕄) = bigSep Finset.univ fun c : Fin 2 => bigSep Finset.univ fun i : Fin 16 => oLoc d ↦[tileSet d (c, i)]{fullShare} f := by
  rw [← bigSep_univ_prod fun p : Fin 2 × Fin 16 => (oLoc d ↦[tileSet d p]{fullShare} f : sProp 𝕄),
    ← pointsTo_biUnion Finset.univ (ℓ := oLoc d) (tileSet d) (tileSet_disjoint d), tileSet_cover]

/-- The four arrays of the kernel are the tiles' holdings together. -/
theorem tiles_eq (d : Dev nD) (f : Buf (Elt F) (oLoc d)) :
    (bigSep Finset.univ fun c : Fin 2 => bigSep Finset.univ fun i : Fin 16 => tileRes m d f c i)
      = iprop((xLoc d ↦{fullShare} xArr m d) ∗ (aLoc d ↦{fullShare} aArr m d) ∗ (zLoc d ↦{fullShare} zArr m d) ∗ oLoc d ↦{fullShare} f) := by
  rw [pts_shares (xArr m d), pts_shares (aArr m d), pts_shares (zArr m d), pts_parts d f,
    ← bigSep_sep', ← bigSep_sep', ← bigSep_sep']
  refine bigSep_congr fun c _ => ?_
  rw [← bigSep_sep', ← bigSep_sep', ← bigSep_sep']
  rfl

/-! ## What the handshakes carry -/

def P : (K (F := F)).Pay (nD := nD) (Val := Elt F) (Name := ℕ) (U := UU) where
  st := fun q d c => match q with | 0 => bigSep Finset.univ fun i : Fin 16 => tileRes m d (oArr m d) (Fin.cast nCore_zero c) i
  dn := fun q d c => match q with | 0 => bigSep Finset.univ fun i : Fin 16 => tileRes m d (outArr m d) (Fin.cast nCore_zero c) i
  go := fun q d c i => match q with | 0 => tileRes m d (oArr m d) (Fin.cast nCore_zero c) (Fin.cast nSub_zero i)
  td := fun q d c i => match q with | 0 => tileRes m d (outArr m d) (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => tileRes m d (oArr m d) (Fin.cast nCore_zero c) i))
  dn q d c := match q with
    | 0 => (inferInstance : BI.Storable (upEmb : UEmb _ 𝕄) (bigSep Finset.univ fun i : Fin 16 => tileRes m d (outArr m d) (Fin.cast nCore_zero c) i))
  go q d c i := match q with
    | 0 => (inferInstance : BI.Storable (upEmb : UEmb _ 𝕄) (tileRes m d (oArr m d) (Fin.cast nCore_zero c) (Fin.cast nSub_zero i)))
  td q d c i := match q with
    | 0 => (inferInstance : BI.Storable (upEmb : UEmb _ 𝕄) (tileRes m d (outArr m d) (Fin.cast nCore_zero c) (Fin.cast nSub_zero i)))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tileRes m d (oArr m d) (Fin.cast nCore_zero c) i) ⊢ |={Set.univ}=> iprop(
      (bigSep Finset.univ fun i : Fin ((K (F := F)).nSub 0) => tileRes m d (oArr m d) (Fin.cast nCore_zero c) (Fin.cast nSub_zero i))
      ∗ ((bigSep Finset.univ fun i : Fin ((K (F := F)).nSub 0) => tileRes m d (outArr m d) (Fin.cast nCore_zero c) (Fin.cast nSub_zero i))
          -∗ (bigSep Finset.univ fun i : Fin 16 => tileRes m d (outArr m d) (Fin.cast nCore_zero c) i)))
  rw [bigSep_tasks (F := F) (fun i => tileRes m d (oArr m d) (Fin.cast nCore_zero c) i),
    bigSep_tasks (F := F) (fun i => tileRes m d (outArr m d) (Fin.cast nCore_zero c) i)]
  iintro H; imodintro
  isplitl [H]; · iexact H
  iintro H; iexact H

/-! ## The tile's obligation -/

theorem defs₀_vector (c : Fin τ.nSC) (s : Fin τ.nSub) :
    defs₀ (F := F) (.scVector c s) 0 ()
      = SparseCore.onTile hcore0 hsub0 (fun c s => cc0_run (coordsV c s)
          xV (Memref.isWhole_whole _) aV (Memref.isWhole_whole _) zV (Memref.isWhole_whole _) oV (Memref.isWhole_whole _)
          b0 (Memref.isWhole_whole _) b1 (Memref.isWhole_whole _) r0 (Memref.isWhole_whole _) r1 (Memref.isWhole_whole _)
          tA (Memref.isWhole_whole _) tZ (Memref.isWhole_whole _)
          cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the run asks of the launch memory: every word of the table of columns is below 256. -/
def TabOK : Prop := ∀ (d : Dev nD) (j : S256.Idx), (aArr m d j).toNat < 256

set_option maxRecDepth 16384 in
theorem tileObl (hF : (K (F := F)).Facts) (hA : TabOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (shareOf (Fin.cast nCore_zero c, Fin.cast nSub_zero i)) (xArr m d) (aArr m d) (zArr m d) (oArr m d) (hA d) O W hO).trans
    (wp_mono frame _ _ fun _ => obl_post)

/-! ## The launch element of the certificate's ghost state -/

omit [FloatOps F] in
theorem bigSep_emp' {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_v13 : Ref sig .tc)
abbrev a' : DevRef τ sig := Proc.devRef .tc (main_v6 : Ref sig .tc)
abbrev z' : DevRef τ sig := Proc.devRef .tc (main_v12 : Ref sig .tc)
abbrev o' : DevRef τ sig := Proc.devRef .tc (main_v14 : Ref sig .tc)
abbrev T4 : Finset (DevRef τ sig) := {x', a', z', o'}

/-- The device's arrays when the kernel is done, and when the program is. -/
def V2 (d : Dev nD) : Valuation τ sig (Elt F) := Function.update (V1 m d) o' (outArr m d)
def V3 (d : Dev nD) : Valuation τ sig (Elt F) := (opZ (F := F)).result (V2 m d)

abbrev UC : Finset (DevRef τ sig) := Pipeline.ucRefs τ sig

theorem mem_UC (r : Ref sig .tc) (h : r.isScoped = false) : Proc.devRef (τ := τ) .tc r ∈ UC :=
  Finset.mem_filter.mpr ⟨StableHlo.devRef_mem_tcRefs r, fun h' => Bool.false_ne_true (h.symm.trans h')⟩

theorem T4_sub : T4 ⊆ UC := by
  intro b hb
  simp only [T4, Finset.mem_insert, Finset.mem_singleton] at hb
  rcases hb with rfl | rfl | rfl | rfl <;> exact mem_UC _ rfl

omit [FloatOps F] in
theorem held_T4 (d : Dev nD) (W : Valuation τ sig (Elt F)) :
    (held (SparseCore.T d) T4 W : sProp 𝕄)
      = iprop((xLoc d ↦{fullShare} W x') ∗ (aLoc d ↦{fullShare} W a') ∗ (zLoc d ↦{fullShare} W z') ∗ oLoc d ↦{fullShare} W o') := by
  unfold held T4
  rw [SparseCore.bigSep_insert' (by decide), SparseCore.bigSep_insert' (by decide), SparseCore.bigSep_insert' (by decide), bigSep_singleton]

theorem ops_UC : ∀ op ∈ (ops : List (HloOp τ sig (Elt F))), op.bufs ⊆ UC :=
  fun op hop => Pipeline.sub_ucRefs op (ops_sub op hop)

/-- What the kernel leaves, beside the arrays it was not given. -/
theorem held_V2 (d : Dev nD) : (held (SparseCore.T d) UC (V2 m d) : sProp 𝕄)
    = iprop(((xLoc d ↦{fullShare} xArr m d) ∗ (aLoc d ↦{fullShare} aArr m d) ∗ (zLoc d ↦{fullShare} zArr m d) ∗ oLoc d ↦{fullShare} outArr m d)
        ∗ held (SparseCore.T d) (UC \ T4) (V1 m d)) := by
  have hx : V2 m d x' = xArr m d := Function.update_of_ne (show x' ≠ o' by decide) _ _
  have ha : V2 m d a' = aArr m d := Function.update_of_ne (show a' ≠ o' by decide) _ _
  have hz : V2 m d z' = zArr m d := Function.update_of_ne (show z' ≠ o' by decide) _ _
  have ho : V2 m d o' = outArr m d := Function.update_self _ _ _
  rw [StableHlo.held_sub_split (SparseCore.T d) T4_sub, held_T4, hx, ha, hz, ho]
  refine congrArg (fun R : sProp 𝕄 => iprop(((xLoc d ↦{fullShare} xArr m d) ∗ (aLoc d ↦{fullShare} aArr m d) ∗ (zLoc d ↦{fullShare} zArr m d) ∗ oLoc d ↦{fullShare} outArr m d) ∗ R)) ?_
  refine StableHlo.held_congr (SparseCore.T d) fun b hb => Function.update_of_ne ?_ _ _
  rintro rfl
  exact (Finset.mem_sdiff.mp hb).2 (show o' ∈ T4 by decide)

theorem st0_eq (d : Dev nD) : (bigSep Finset.univ fun c : Fin ((K (F := F)).nCore 0) => (P m).st 0 d c)
    = iprop((xLoc d ↦{fullShare} xArr m d) ∗ (aLoc d ↦{fullShare} aArr m d) ∗ (zLoc d ↦{fullShare} zArr m d) ∗ oLoc d ↦{fullShare} oArr m d) := by
  rw [← tiles_eq]; rfl
theorem dn0_eq (d : Dev nD) : (bigSep Finset.univ fun c : Fin ((K (F := F)).nCore 0) => (P m).dn 0 d c)
    = iprop((xLoc d ↦{fullShare} xArr m d) ∗ (aLoc d ↦{fullShare} aArr m d) ∗ (zLoc d ↦{fullShare} zArr m d) ∗ oLoc d ↦{fullShare} outArr m d) := by
  rw [← tiles_eq]; rfl

/-- What @main leaves the claim: all its arrays. -/
abbrev FIN (d : Dev nD) : sProp 𝕄 := held (SparseCore.T d) UC (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) UC (V0 m d) from Pipeline.unscopedBufs_held d (V0 m d), main_eq]
  iintro ⟨#Hctx, Hst, ⟨Hb, Hheld, Hts, -⟩, -⟩
  iapply (StableHlo.wp_seq 𝒱 none Set.univ d UC _ ops ops_UC ops_fresh (V0 m d)) $$ [Hb Hheld]
  · isplitl [Hb]; · iexact Hb
    iexact Hheld
  iintro ⟨Hb, Hheld⟩
  ihave Hh := (show (held d.tc UC (after ops (V0 m d)) : sProp 𝕄) ⊢ iprop(held (SparseCore.T d) T4 (V1 m d) ∗ held (SparseCore.T d) (UC \ T4) (V1 m d))
    from Entails.of_eq (StableHlo.held_sub_split (SparseCore.T d) T4_sub (V1 m d))) $$ Hheld
  icases Hh with ⟨H4, Hrest⟩
  ihave H4 := (Entails.of_eq (held_T4 (F := F) d _)) $$ H4
  rw [wp_bind]
  iapply ((K (F := F)).wp_run (D (F := F)) 𝒱 (EH := EH) (P := P m) κ d 0) $$ [Hst H4 Hrest Hb Hts]
  isplitr; · iexact Hctx
  isplitl [Hst]; · iexact Hst
  isplitl [H4]
  · rw [st0_eq]; iexact H4
  iintro ⟨Hst, Hdn⟩
  ihave Hdn' := (Entails.of_eq (dn0_eq m d)) $$ Hdn
  iapply (StableHlo.wp_hlo_within 𝒱 (SparseCore.T d) none Set.univ (op := opZ) (S := UC) (Pipeline.sub_ucRefs _ (StableHlo.reshape_bufs_sub ..)) (V := V2 m d)) $$ [Hb Hdn' Hrest]
  · isplitl [Hb]; · iexact Hb
    rw [held_V2]
    isplitl [Hdn']; · iexact Hdn'
    iexact Hrest
  iintro ⟨Hb, Hheld⟩
  rw [wp_ret]; imodintro
  isplitl [Hst]; · iexact Hst
  isplitl [Hheld]; · iexact Hheld
  isplitl [Hb] <;> iassumption

def fq (d : Dev nD) (s' : Phys nD τ sig (Elt F)) : Prop := ∀ b ∈ UC, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) UC) $$ [HSI H]
  · isplitl [HSI]; · iexact HSI
    iexact H
  ipureintro
  exact fun b hb => h b hb

/-! ## The program's run -/

/-- The result: element `4 r + k` of the kernel's output, in its three-axis shape. -/
def kernelOut (x : S32x2048x256.Idx → F .f32) (ix : S64x4.Idx → BitVec 32) (mk : S64x4.Idx → F .f32) : S32x2048x4.Idx → F .f32 :=
  shapeCast S32x2048x4 (poolOut (floorOf mk) (adjOf mk ix) (rowsOf x)) shapeCasts_S262144_S32x2048x4

abbrev arg0 (c : Dev nD) : Loc nD τ sig := (SparseCore.T c).loc main_arg0
abbrev arg1 (c : Dev nD) : Loc nD τ sig := (SparseCore.T c).loc main_arg1
abbrev arg2 (c : Dev nD) : Loc nD τ sig := (SparseCore.T c).loc main_arg2

theorem V3_keep (d : Dev nD) {r : Ref sig .tc} (h : r ≠ main_v15) (h' : r ≠ main_v14)
    (hr : r ∉ WA ++ WA' ++ WB ++ WB' ++ WC ++ WC' ++ WD ++ WD') : V3 m d (Proc.devRef .tc r) = m ((SparseCore.T d).loc r) := by
  unfold V3 V2
  rw [StableHlo.reshape_result_ne (h := h), Function.update_of_ne (StableHlo.devRef_ne_of_ne h')]
  exact keep _ hr

theorem V3_out (d : Dev nD) : V3 m d (Proc.devRef .tc main_v15) = kernelOut (m (arg0 d)) (m (arg1 d)) (m (arg2 d)) := by
  unfold V3 V2
  rw [StableHlo.reshape_result, Function.update_self]
  unfold outArr xArr aArr zArr
  rw [show V1 m d (Proc.devRef .tc main_v13) = _ from ops_main_v13 _, show V1 m d (Proc.devRef .tc main_v6) = _ from ops_main_v6 _,
    show V1 m d (Proc.devRef .tc main_v12) = _ from ops_main_v12 _]
  rfl

/-- What every execution ends with. -/
def QC : PUnit × MemSt nD τ sig (Elt F) → Prop := fun r =>
  (∀ c : Dev nD, r.2.mem ((SparseCore.T c).loc main_v15) = kernelOut (m (arg0 c)) (m (arg1 c)) (m (arg2 c))
    ∧ r.2.mem (arg0 c) = m (arg0 c) ∧ r.2.mem (arg1 c) = m (arg1 c) ∧ r.2.mem (arg2 c) = m (arg2 c)) ∧ r.2.sem = fun _ => 0

theorem QC_of (s : MemSt nD τ sig (Elt F)) (h : ∀ c : Dev nD, ∀ b ∈ UC, s.mem (c, b) = V3 m c b) (hz : s.sem = fun _ => 0) : QC m (⟨⟩, s) :=
  ⟨fun c => ⟨(h c _ (mem_UC main_v15 rfl)).trans (V3_out m c),
    (h c _ (mem_UC main_arg0 rfl)).trans (V3_keep m c (by decide) (by decide) (by decide)),
    (h c _ (mem_UC main_arg1 rfl)).trans (V3_keep m c (by decide) (by decide) (by decide)),
    (h c _ (mem_UC main_arg2 rfl)).trans (V3_keep m c (by decide) (by decide) (by decide))⟩, hz⟩

theorem run_main [∀ e, Nonempty (Elt F e)] (hA : TabOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hA)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun r h hz => QC_of m r.mem h hz)

end Cert.Proof.Pool

end
-- ==== Proof.Table.lean ====
/-
  What the host's table holds: every word of it is a word of the given indices, so in range when they are; and a
  dead entry's word is the one at the row the host found for its output.
-/
module

public import proofs.«01_k».proof.Proof.Launch
public import proofs.«01_k».proof.Proof.Gen.Pre_in_range
public import proofs.«01_k».proof.Proof.Gen.Pre_zero_one
public import Idealize.ShloMosaic.Lib.StableHlo.Predicate
public import Idealize.ShloMosaic.Lib.WordCmp
public import Idealize.ShloMosaic.Lib.Pipeline.Value

@[expose] public section

noncomputable section

namespace Cert.Proof.Pool

open Cert.KernelIdeal Cert.KernelIdeal.Gen
open Idealize.ShloMosaic Idealize.ShloMosaic.ValueIdx

/-! ## Folds -/

/-- A fold keeps a property its start has and its step keeps. -/
theorem foldl_keeps {α β : Type} (f : α → β → α) (P : α → Prop) (Q : β → Prop) (hf : ∀ a b, P a → Q b → P (f a b)) :
    ∀ (l : List β) (a : α), P a → (∀ b ∈ l, Q b) → P (l.foldl f a)
  | [], _, ha, _ => ha
  | b :: l, a, ha, hl => foldl_keeps f P Q hf l (f a b) (hf a b ha (hl b (List.mem_cons_self ..))) fun c hc => hl c (List.mem_cons_of_mem _ hc)

/-- A fold that keeps what it has found ends with it, when some entry is found. -/
theorem foldl_finds {α β : Type} (f : α → β → α) (P G : α → Prop) (Q H : β → Prop) (hf : ∀ a b, P a → Q b → P (f a b))
    (hG : ∀ a b, P a → Q b → G a → G (f a b)) (hH : ∀ a b, P a → Q b → H b → G (f a b)) :
    ∀ (l : List β) (a : α), P a → (∀ b ∈ l, Q b) → (∃ b ∈ l, H b) → G (l.foldl f a)
  | [], _, _, _, ⟨_, h, _⟩ => nomatch h
  | b :: l, a, ha, hl, ⟨c, hc, hHc⟩ => by
    have hb := hl b (List.mem_cons_self ..)
    have hl' : ∀ c ∈ l, Q c := fun c hc => hl c (List.mem_cons_of_mem _ hc)
    rcases List.mem_cons.1 hc with rfl | hc'
    · exact (foldl_keeps f (fun a => P a ∧ G a) Q (fun a b h hQ => ⟨hf a b h.1 hQ, hG a b h.1 hQ h.2⟩) l (f a c)
        ⟨hf a c ha hb, hH a c ha hb hHc⟩ hl').2
    · exact foldl_finds f P G Q H hf hG hH l (f a b) (hf a b ha hb) hl' ⟨c, hc', hHc⟩

theorem andi_eq_one (a b : BitVec 1) : IntOp.andi a b = 1#1 ↔ a = 1#1 ∧ b = 1#1 := by revert a b; decide
theorem ori_eq_one (a b : BitVec 1) : IntOp.ori a b = 1#1 ↔ a = 1#1 ∨ b = 1#1 := by revert a b; decide

theorem fold_andi {ι : Type} [DecidableEq ι] (S : Finset ι) (x : ι → BitVec 1) : S.fold IntOp.andi 1#1 x = 1#1 ↔ ∀ i ∈ S, x i = 1#1 := by
  induction S using Finset.induction_on with
  | empty => simp
  | insert a S ha ih => rw [Finset.fold_insert ha, andi_eq_one, ih, Finset.forall_mem_insert]

theorem fold_ori {ι : Type} [DecidableEq ι] (S : Finset ι) (x : ι → BitVec 1) : S.fold IntOp.ori 0#1 x = 1#1 ↔ ∃ i ∈ S, x i = 1#1 := by
  induction S using Finset.induction_on with
  | empty => simp
  | insert a S ha ih => rw [Finset.fold_insert ha, ori_eq_one, ih, Finset.exists_mem_insert]

/-- A conjunction along some axes holds at a place when it holds at everything that drops there. -/
theorem reduce_andi {s t : Shape} {axes : List (Fin s.rank)} (x : IVec s 1) (h : s.ReducesTo axes t) (j : t.Idx) :
    Host.reduce IntOp.andi x (constantI S_ 1 1#1) h h_S_ j = 1#1 ↔ ∀ i, h.drop i = j → x i = 1#1 := by
  rw [Host.reduce_eq_fold]
  exact (fold_andi _ x).trans (forall_congr' fun i => by simp)

/-- A disjunction along some axes holds at a place when it holds at something that drops there. -/
theorem reduce_ori {s t : Shape} {axes : List (Fin s.rank)} (x : IVec s 1) (h : s.ReducesTo axes t) (j : t.Idx) :
    Host.reduce IntOp.ori x (constantI S_ 1 0#1) h h_S_ j = 1#1 ↔ ∃ i, h.drop i = j ∧ x i = 1#1 := by
  rw [Host.reduce_eq_fold]
  exact (fold_ori _ x).trans (exists_congr fun i => by simp)

variable {F : FTy → Type} [FloatOps F]

/-! ## The row found -/

theorem argmax_index (a b : F .f32 × BitVec 32) : (reducer_argmax_f32_i32 a b).2 = a.2 ∨ (reducer_argmax_f32_i32 a b).2 = b.2 := by
  unfold reducer_argmax_f32_i32 Scalar.select
  simp only
  split_ifs <;> simp

theorem fiber_index (mk : S64x4.Idx → F .f32) (j : S4.Idx) (p : F .f32 × BitVec 32)
    (hp : p ∈ Host.argReduceFiber mk (iotaInDim S64x4 32 0) reducesTo_S64x4_S4_d0 j) : p.2.toNat < 64 := by
  unfold Host.argReduceFiber at hp
  obtain ⟨n, _, rfl⟩ := List.mem_map.1 hp
  have h := idx2_lt0 (S64x4.rowMajor.symm n)
  show (BitVec.ofNat 32 (S64x4.rowMajor.symm n 0).val).toNat < 64
  rw [BitVec.toNat_ofNat]; omega

theorem firstLive_lt (mk : S64x4.Idx → F .f32) (j : S4.Idx) : (firstLive mk j).toNat < 64 := by
  unfold firstLive
  by_cases hn : 2 ≤ (Host.argReduceNaNs mk (iotaInDim S64x4 32 0) reducesTo_S64x4_S4_d0 j).length
  · exact fiber_index mk j _ ((Host.mem_argReduceNaNs_iff ..).1 (Host.argReduce_mem_nans _ _ _ _ _ _ _ _ hn)).1
  · rw [Host.argReduce_apply_eq_reduce2 _ _ _ _ _ _ _ _ (by omega), Host.reduce2_eq_foldl_fiber]
    refine foldl_keeps _ (fun p : F .f32 × BitVec 32 => p.2.toNat < 64) (fun p : F .f32 × BitVec 32 => p.2.toNat < 64) ?_ _ _ (show (0#32).toNat < 64 by decide) (fiber_index mk j)
    intro a b ha hb
    rcases argmax_index a b with h | h <;> rw [h] <;> assumption

/-! ## The look-up -/

theorem gather_at (ix : S64x4.Idx → BitVec 32) (r : S1x4x1.Idx → BitVec 32) (k : Fin 4) (p : Fin 64)
    (hr : (r (ix3 0 k 0)).toNat = p.val) :
    Host.gather gather_S64x4_S1x4x1_S1x4_n_0_1_1_0_2_11 ix r (ix2 0 k) = ix (ix2 p k) := by
  unfold Host.gather
  refine congrArg ix (funext fun a => ?_)
  match a with
  | ⟨0, _⟩ =>
    refine Fin.ext ?_
    have e : gather_S64x4_S1x4x1_S1x4_n_0_1_1_0_2_11.siIdx (ix2 0 k) ⟨0, by decide⟩ = ix3 0 k 0 := funext fun b => by
      match b with
      | ⟨0, _⟩ => rfl
      | ⟨1, _⟩ => rfl
      | ⟨2, _⟩ => rfl
    show min (r (gather_S64x4_S1x4x1_S1x4_n_0_1_1_0_2_11.siIdx (ix2 0 k) ⟨0, _⟩)).toInt.toNat (64 - 1) + 0 + 0 = p.val
    have hp := p.isLt
    rw [e, StableHlo.Predicate.toInt_eq_toNat_of_lt (by omega)]
    simp only [Int.toNat_natCast]
    omega
  | ⟨1, _⟩ =>
    refine Fin.ext ?_
    show 0 + k.val + 0 = k.val
    omega

theorem liveRow_at (f : S1x4.Idx → BitVec 32) (k : Fin 4) (hf : (f (ix2 0 k)).toNat < 64) : liveRow f (ix3 0 k 0) = f (ix2 0 k) := by
  unfold liveRow
  rw [shapeCast_apply _ _ _ (ix2 0 k) (by rw [Shape.rowMajor_val_two, Shape.rowMajor_val_three]; show 0 * 4 + k.val = (0 * 4 + k.val) * 1 + 0; omega)]
  have h : ¬ IntOp.cmpi .slt (f (ix2 0 k)) 0#32 = 1#1 := by
    rw [StableHlo.Predicate.slt_iff_toNat (by omega) (by decide)]
    simp
  exact if_neg h

theorem liveIdx_at (ix : S64x4.Idx → BitVec 32) (f : S1x4.Idx → BitVec 32) (k : Fin 4) (p : Fin 64) (hf : (f (ix2 0 k)).toNat = p.val) :
    liveIdx ix f (ix2 0 k) = ix (ix2 p k) := by
  have hp := p.isLt
  have hl := liveRow_at f k (by omega)
  unfold liveIdx
  refine Eq.trans (if_pos ?_) (gather_at ix (liveRow f) k p (by rw [hl]; exact hf))
  refine (reduce_andi _ _ _).2 fun i hi => ?_
  have e : i = ix3 0 k 0 := by
    rw [eq_ix3 i]
    have h1 : (i 1).val = k.val := by
      have := congrFun hi 1
      have := congrArg Fin.val this
      rw [Shape.ReducesTo.drop_apply_val_of_eq _ _ _ 1] at this
      exact this
    have h0 : i 0 = (0 : Fin 1) := Subsingleton.elim (α := Fin 1) _ _
    have h2 : i 2 = (0 : Fin 1) := Subsingleton.elim (α := Fin 1) _ _
    rw [h0, h2]
    exact congrArg (fun q => ix3 (0 : Fin 1) q (0 : Fin 1)) (Fin.ext h1)
  subst e
  show IntOp.andi (IntOp.cmpi .sge (liveRow f (ix3 0 k 0)) 0#32) (IntOp.cmpi .sle (liveRow f (ix3 0 k 0)) 63#32) = 1#1
  rw [hl, andi_eq_one, StableHlo.Predicate.sge_iff_toNat (by omega) (by decide), StableHlo.Predicate.sle_iff_toNat (by omega) (by decide)]
  refine ⟨Nat.zero_le _, ?_⟩
  show _ ≤ 63
  omega

/-! ## The table -/

/-- The row the host found for output `k`. -/
def firstRow (mk : S64x4.Idx → F .f32) (k : Fin 4) : Fin 64 := ⟨(firstLive mk (ix1 k)).toNat, firstLive_lt mk _⟩

theorem adjOf_at (mk : S64x4.Idx → F .f32) (ix : S64x4.Idx → BitVec 32) (p : Fin 64) (k : Fin 4) :
    adjOf mk ix (ix1 ⟨4 * p.val + k.val, by omega⟩)
      = if FloatOps.cmpf .ogt (mk (ix2 p k)) (FloatOps.ofBits .f32 0x00000000#32) = 1#1 then ix (ix2 p k) else ix (ix2 (firstRow mk k) k) := by
  unfold adjOf
  rw [shapeCast_apply _ _ _ (ix2 p k) (by rw [Shape.rowMajor_val_two, Shape.rowMajor_val_one]; show p.val * 4 + k.val = 4 * p.val + k.val; omega)]
  rw [← liveIdx_at ix (broadcastInDim S1x4 ![1] bcast_S4_S1x4_1 (firstLive mk)) k (firstRow mk k) ?_]
  · unfold liveTab
    refine if_congr Iff.rfl rfl ?_
    refine broadcastInDim_apply _ _ _ _ _ fun a => ?_
    match a with
    | ⟨0, _⟩ => rfl
    | ⟨1, _⟩ => rfl
  · rw [broadcastInDim_apply _ _ _ _ (ix1 k) fun a => by match a with | ⟨0, _⟩ => rfl]
    rfl

/-- Every word of the table is a word of the indices. -/
theorem adjOf_lt (mk : S64x4.Idx → F .f32) (ix : S64x4.Idx → BitVec 32) (h : ∀ i, (ix i).toNat < 256) (j : S256.Idx) :
    (adjOf mk ix j).toNat < 256 := by
  have hj : (j 0).val < 256 := (j 0).isLt
  have e : j = ix1 ⟨4 * ((⟨(j 0).val / 4, by omega⟩ : Fin 64)).val + ((⟨(j 0).val % 4, by omega⟩ : Fin 4)).val, by simp only; omega⟩ := by
    exact (eq_ix1 j).trans (congrArg (fun q : Fin 256 => ix1 q) (Fin.ext (by show (j 0).val = 4 * ((j 0).val / 4) + (j 0).val % 4; omega)))
  rw [e, adjOf_at]
  split_ifs <;> exact h _

/-! ## The conditions -/

theorem word_lt (v : BitVec 32) (h : IntOp.andi (IntOp.cmpi .sge v 0#32) (IntOp.cmpi .slt v 256#32) = 1#1) : v.toNat < 256 := by
  have := (WordCmp.andi_sge_zero_slt_ofNat (k := 256) (w := 32) (by decide) v).symm.trans h
  simpa only [StableHlo.Predicate.ofBool_eq_one_iff, decide_eq_true_eq] using this

theorem in_range_lt (x : S32x2048x256.Idx → F .f32) (ix : S64x4.Idx → BitVec 32) (mk : S64x4.Idx → F .f32)
    (h : Cert.Pre_in_range.fn x ix mk = fun _ => 1#1) (i : S64x4.Idx) : (ix i).toNat < 256 := by
  have h0 := congrFun h ix0
  exact word_lt _ ((reduce_andi _ _ _).1 h0 i (funext fun a => a.elim0))

/-- What the second condition says: the indices in range, the weights zero or one, a one for every output. -/
theorem zero_one_at (x : S32x2048x256.Idx → F .f32) (ix : S64x4.Idx → BitVec 32) (mk : S64x4.Idx → F .f32)
    (h : Cert.Pre_zero_one.fn x ix mk = fun _ => 1#1) :
    (∀ i, (ix i).toNat < 256)
    ∧ (∀ i, FloatOps.cmpf .oeq (mk i) (FloatOps.ofBits .f32 0x00000000#32) = 1#1 ∨ FloatOps.cmpf .oeq (mk i) (FloatOps.ofBits .f32 0x3F800000#32) = 1#1)
    ∧ (∀ k : Fin 4, ∃ p : Fin 64, FloatOps.cmpf .oeq (mk (ix2 p k)) (FloatOps.ofBits .f32 0x3F800000#32) = 1#1) := by
  have h0 := congrFun h ix0
  obtain ⟨h12, h3⟩ := (andi_eq_one _ _).1 h0
  obtain ⟨h1, h2⟩ := (andi_eq_one _ _).1 h12
  refine ⟨fun i => word_lt _ ((reduce_andi _ _ _).1 h1 i (funext fun a => a.elim0)),
    fun i => (ori_eq_one _ _).1 ((reduce_andi _ _ _).1 h2 i (funext fun a => a.elim0)), fun k => ?_⟩
  obtain ⟨i, hi, e⟩ := (reduce_ori _ _ _).1 ((reduce_andi _ _ _).1 h3 (ix1 k) (funext fun a => a.elim0))
  refine ⟨(i 0 : Fin 64), ?_⟩
  have h1 : (i 1 : Fin 4) = k := by
    have := congrArg Fin.val (congrFun hi 0)
    rw [Shape.ReducesTo.drop_apply_val_of_eq _ _ _ 1] at this
    exact Fin.ext this
  have e2 : ix2 (i 0 : Fin 64) k = i := h1 ▸ (eq_ix2 (n0 := 64) (n1 := 4) i).symm
  exact (congrArg (fun v => FloatOps.cmpf .oeq v (FloatOps.ofBits .f32 0x3F800000#32)) (congrArg mk e2)).trans e

/-- The table is in range when the indices are. -/
theorem tabOK_of (m : (ℓ : Loc nD τ sig) → Buf (Elt F) ℓ) (h : ∀ c i, (m (arg1 c) i).toNat < 256) : TabOK m := fun d j => by
  rw [show aArr m d = adjOf (m (arg2 d)) (m (arg1 d)) from ops_main_v6 _]
  exact adjOf_lt _ _ (h d) j

end Cert.Proof.Pool

end
-- ==== Proof.Frames.lean ====
/-
  The runs of the programs: they end, without a fault, their arguments as they were and every counter at zero.
-/
module

public import proofs.«01_k».proof.Defs
public import proofs.«01_k».proof.Proof.Table
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_kernelIdeal : Cert.quiescent_KernelIdeal := fun m ρ hpre =>
  (θ_run Cert.KernelIdeal.defs _ _).mono (fun _ h => ⟨fun c => (h.1 c).2, h.2⟩)
    (Pool.run_main (F := Ideal) m ρ (Pool.tabOK_of m fun c => Pool.in_range_lt _ _ _ (hpre c)))

theorem frame_kernelIdeal_zero_one : Cert.quiescent_KernelIdeal_pre_zero_one := fun m ρ hpre =>
  (θ_run Cert.KernelIdeal.defs _ _).mono (fun _ h => ⟨fun c => (h.1 c).2, h.2⟩)
    (Pool.run_main (F := Ideal) m ρ (Pool.tabOK_of m fun c => (Pool.zero_one_at _ _ _ (hpre c)).1))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_zero_one : Cert.quiescent_ReferenceIdeal_pre_zero_one := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernel : Cert.quiescent_Kernel := fun m ρ hpre =>
  (θ_run Cert.KernelIdeal.defs _ _).mono (fun _ h => ⟨fun c => (h.1 c).2, h.2⟩)
    (Pool.run_main (F := Bits) m ρ (Pool.tabOK_of (F := Bits) m fun c => Pool.in_range_lt _ _ _ (hpre c)))

end Cert.Proof

end
-- ==== Proof.Value.lean ====
/-
  The kernel's result over the extended reals, element by element: the greatest, over the 64 entries of an output, of the
  selected feature where the entry is live and of zero where it is dead.
-/
module

public import proofs.«01_k».proof.Proof.Table
public import Idealize.ShloMosaic.Lib.IdealHost
public import Idealize.ShloMosaic.PureOps.Ideal.Laws

@[expose] public section

noncomputable section

namespace Cert.Proof.Pool

open Cert.KernelIdeal Cert.KernelIdeal.Gen
open Idealize.ShloMosaic Idealize.ShloMosaic.ValueIdx

theorem ofBits_bot : (FloatOps.ofBits .f32 0xFF800000#32 : Ideal .f32) = (⊥ : EReal) := by
  show Ideal.ofBits .f32 0xFF800000#32 = ⊥
  simp [Ideal.ofBits, Ideal.ieee]

/-! ## The row found is a live one -/

section Live

variable (mk : S64x4.Idx → EReal) (k : Fin 4)

/-- A pair of a one and the row of a one of column `k`. -/
def Good (a : EReal × BitVec 32) : Prop := a.1 = 1 ∧ ∃ p : Fin 64, a.2.toNat = p.val ∧ mk (ix2 p k) = 1

theorem argmax_pair (a b : EReal × BitVec 32) :
    (reducer_argmax_f32_i32 (F := Ideal) a b).1 = (if b.1 < a.1 then a.1 else b.1)
    ∧ ((b.1 < a.1 → (reducer_argmax_f32_i32 (F := Ideal) a b).2 = a.2)
      ∧ (¬ b.1 < a.1 → a.1 ≠ b.1 → (reducer_argmax_f32_i32 (F := Ideal) a b).2 = b.2)) := by
  unfold reducer_argmax_f32_i32 Scalar.select
  simp only [Ideal.cmpf_def, Ideal.cmp]
  refine ⟨?_, fun h => ?_, fun h h' => ?_⟩
  · by_cases h : b.1 < a.1 <;> simp [h, IntOp.ori]
  · exact if_pos ((ori_eq_one _ _).2 (.inl ((ori_eq_one _ _).2 (.inl (by simp [h])))))
  · simp [h, h', IntOp.ori, IntOp.andi]

theorem good_left (a b : EReal × BitVec 32) (ha : Good mk k a) (hb : b.1 = 0 ∨ Good mk k b) :
    Good mk k (reducer_argmax_f32_i32 (F := Ideal) a b) := by
  obtain ⟨h1, h2, _⟩ := argmax_pair a b
  rcases hb with hb | hb
  · have hlt : b.1 < a.1 := by rw [hb, ha.1]; exact zero_lt_one
    exact ⟨by rw [h1, if_pos hlt]; exact ha.1, by rw [h2 hlt]; exact ha.2⟩
  · have hlt : ¬ b.1 < a.1 := by rw [hb.1, ha.1]; exact lt_irrefl _
    refine ⟨by rw [h1, if_neg hlt]; exact hb.1, ?_⟩
    rcases argmax_index (F := Ideal) a b with h | h
    · rw [h]; exact ha.2
    · rw [h]; exact hb.2

theorem good_right (a b : EReal × BitVec 32) (ha : a.1 = ⊥ ∨ a.1 = 0 ∨ Good mk k a) (hb : Good mk k b) :
    Good mk k (reducer_argmax_f32_i32 (F := Ideal) a b) := by
  have low : a.1 < b.1 → Good mk k (reducer_argmax_f32_i32 (F := Ideal) a b) := fun h => by
    obtain ⟨h1, _, h3⟩ := argmax_pair a b
    exact ⟨by rw [h1, if_neg (not_lt.2 h.le)]; exact hb.1, by rw [h3 (not_lt.2 h.le) h.ne]; exact hb.2⟩
  rcases ha with ha | ha | ha
  · exact low (by rw [ha, hb.1]; exact bot_lt_iff_ne_bot.2 (by decide +kernel))
  · exact low (by rw [ha, hb.1]; exact zero_lt_one)
  · exact good_left mk k a b ha (.inr hb)

theorem argmax_keeps (a b : EReal × BitVec 32) (ha : a.1 = ⊥ ∨ a.1 = 0 ∨ Good mk k a) (hb : b.1 = 0 ∨ Good mk k b) :
    (reducer_argmax_f32_i32 (F := Ideal) a b).1 = ⊥ ∨ (reducer_argmax_f32_i32 (F := Ideal) a b).1 = 0
      ∨ Good mk k (reducer_argmax_f32_i32 (F := Ideal) a b) := by
  rcases ha with ha | ha | ha
  · rcases hb with hb | hb
    · right; left
      rw [(argmax_pair a b).1, ha, hb]; simp
    · exact .inr (.inr (good_right mk k a b (.inl ha) hb))
  · rcases hb with hb | hb
    · right; left
      rw [(argmax_pair a b).1, ha, hb]; simp
    · exact .inr (.inr (good_right mk k a b (.inr (.inl ha)) hb))
  · exact .inr (.inr (good_left mk k a b ha hb))

/-- Of a column of zeros and ones that has a one, the row found is one of a one. -/
theorem firstRow_live (h01 : ∀ i, mk i = 0 ∨ mk i = 1) (h1 : ∃ p : Fin 64, mk (ix2 p k) = 1) :
    mk (ix2 (firstRow (F := Ideal) mk k) k) = 1 := by
  have hfib : ∀ b ∈ Host.argReduceFiber mk (iotaInDim S64x4 32 0) reducesTo_S64x4_S4_d0 (ix1 k), b.1 = 0 ∨ Good mk k b := by
    intro b hb
    unfold Host.argReduceFiber at hb
    obtain ⟨n, hn, rfl⟩ := List.mem_map.1 hb
    have hd := of_decide_eq_true (List.mem_filter.1 hn).2
    generalize hi : S64x4.rowMajor.symm n = i at hd
    have e1 : (i 1 : Fin 4) = k := by
      have := congrArg Fin.val (congrFun hd 0)
      rw [Shape.ReducesTo.drop_apply_val_of_eq _ _ _ 1] at this
      exact Fin.ext this
    have e2 : ix2 (i 0 : Fin 64) k = i := e1 ▸ (eq_ix2 (n0 := 64) (n1 := 4) i).symm
    rcases h01 i with h | h
    · exact .inl h
    · refine .inr ⟨h, (i 0 : Fin 64), ?_, (congrArg mk e2).trans h⟩
      have := idx2_lt0 (n0 := 64) (n1 := 4) i
      show (BitVec.ofNat 32 (i 0).val).toNat = (i 0).val
      rw [BitVec.toNat_ofNat]; omega
  have hone : ∃ b ∈ Host.argReduceFiber mk (iotaInDim S64x4 32 0) reducesTo_S64x4_S4_d0 (ix1 k), Good mk k b := by
    obtain ⟨p, hp⟩ := h1
    refine ⟨(mk (ix2 p k), BitVec.ofNat 32 p.val), ?_, hp, p, ?_, hp⟩
    · unfold Host.argReduceFiber
      refine List.mem_map.2 ⟨S64x4.rowMajor (ix2 p k), List.mem_filter.2 ⟨List.mem_finRange _, decide_eq_true ?_⟩, ?_⟩
      · rw [Equiv.symm_apply_apply]
        refine funext fun a => ?_
        match a with
        | ⟨0, _⟩ => exact Fin.ext (Shape.ReducesTo.drop_apply_val_of_eq reducesTo_S64x4_S4_d0 (ix2 p k) 0 1)
      · rw [Equiv.symm_apply_apply]; rfl
    · have := p.isLt
      rw [BitVec.toNat_ofNat]; omega
  have hg : Good mk k (Host.argReduce reducer_argmax_f32_i32 (F := Ideal) mk (iotaInDim S64x4 32 0) (constant S_ .f32 0xFF800000#32) (constantI S_ 32 0#32)
      reducesTo_S64x4_S4_d0 h_S_ (ix1 k)) := by
    rw [Ideal.argReduce_eq_reduce2, Host.reduce2_eq_foldl_fiber]
    exact foldl_finds _ (fun a => a.1 = ⊥ ∨ a.1 = 0 ∨ Good mk k a) (Good mk k) (fun b => b.1 = 0 ∨ Good mk k b) (Good mk k)
      (argmax_keeps mk k) (fun a b _ hb ha => good_left mk k a b ha hb) (fun a b ha _ hb => good_right mk k a b ha hb) _ _
      (.inl ofBits_bot) hfib hone
  obtain ⟨_, p, hp, hm⟩ := hg
  have : firstRow (F := Ideal) mk k = p := Fin.ext hp
  rw [this]; exact hm

end Live

/-! ## The floors and the table -/

section Entries

variable (mk : S64x4.Idx → EReal) (h01 : ∀ i, mk i = 0 ∨ mk i = 1)

theorem floorOf_le (l : Fin 16) (b : EReal) :
    (floorOf (F := Ideal) mk (ix1 l) : EReal) ≤ b
      ↔ ∀ c : Fin 16, mk (ix2 (⟨4 * c.val + l.val / 4, by omega⟩ : Fin 64) (⟨l.val % 4, by omega⟩ : Fin 4)) = 0 → 0 ≤ b := by
  have hc : ∀ c : Fin 16, shapeCast S16x16 mk shapeCasts_S64x4_S16x16 (ix2 c l)
      = mk (ix2 (⟨4 * c.val + l.val / 4, by omega⟩ : Fin 64) (⟨l.val % 4, by omega⟩ : Fin 4)) := fun c =>
    shapeCast_apply _ _ _ _ (by
      rw [Shape.rowMajor_val_two, Shape.rowMajor_val_two]
      show (4 * c.val + l.val / 4) * 4 + l.val % 4 = c.val * 16 + l.val
      omega)
  have hr : Host.reduce IntOp.ori
      (cmpf .oeq (shapeCast S16x16 mk shapeCasts_S64x4_S16x16) (broadcastInDim S16x16 ![] bcast_S_S16x16 (constant (F := Ideal) S_ .f32 0x00000000#32)))
      (constantI S_ 1 0#1) reducesTo_S16x16_S16_d0 h_S_ (ix1 l) = 1#1
      ↔ ∃ c : Fin 16, mk (ix2 (⟨4 * c.val + l.val / 4, by omega⟩ : Fin 64) (⟨l.val % 4, by omega⟩ : Fin 4)) = 0 := by
    rw [reduce_ori]
    have key : ∀ c : Fin 16, cmpf .oeq (shapeCast S16x16 mk shapeCasts_S64x4_S16x16)
        (broadcastInDim S16x16 ![] bcast_S_S16x16 (constant (F := Ideal) S_ .f32 0x00000000#32)) (ix2 c l) = 1#1
        ↔ mk (ix2 (⟨4 * c.val + l.val / 4, by omega⟩ : Fin 64) (⟨l.val % 4, by omega⟩ : Fin 4)) = 0 := fun c => by
      show Ideal.cmp .oeq (shapeCast S16x16 mk shapeCasts_S64x4_S16x16 (ix2 c l)) (Ideal.ofBits .f32 0x00000000#32) = 1#1 ↔ _
      rw [hc, Ideal.ofBits_zero_f32]
      simp [Ideal.cmp, StableHlo.Predicate.ofBool_eq_one_iff]
    constructor
    · rintro ⟨i, hi, e⟩
      have e1 : (i 1 : Fin 16) = l := by
        have := congrArg Fin.val (congrFun hi 0)
        rw [Shape.ReducesTo.drop_apply_val_of_eq _ _ _ 1] at this
        exact Fin.ext this
      have e2 : ix2 (i 0 : Fin 16) l = i := e1 ▸ (eq_ix2 (n0 := 16) (n1 := 16) i).symm
      rw [← e2] at e
      exact ⟨(i 0 : Fin 16), (key _).1 e⟩
    · rintro ⟨c, e⟩
      refine ⟨ix2 c l, funext fun a => ?_, (key c).2 e⟩
      match a with
      | ⟨0, _⟩ => exact Fin.ext (Shape.ReducesTo.drop_apply_val_of_eq reducesTo_S16x16_S16_d0 (ix2 c l) 0 1)
  unfold floorOf
  by_cases h : ∃ c : Fin 16, mk (ix2 (⟨4 * c.val + l.val / 4, by omega⟩ : Fin 64) (⟨l.val % 4, by omega⟩ : Fin 4)) = 0
  · rw [show select _ _ _ (ix1 l) = _ from if_pos (hr.2 h)]
    show Ideal.ofBits .f32 0x00000000#32 ≤ b ↔ _
    rw [Ideal.ofBits_zero_f32]
    exact ⟨fun hb _ _ => hb, fun hb => h.elim hb⟩
  · rw [show select _ _ _ (ix1 l) = _ from if_neg fun e => h (hr.1 e)]
    refine ⟨fun _ c hc => absurd ⟨c, hc⟩ h, fun _ => ?_⟩
    show (FloatOps.ofBits .f32 0xFF800000#32 : Ideal .f32) ≤ b
    rw [ofBits_bot]; exact bot_le

include h01 in
theorem adjOf_entry (ix : S64x4.Idx → BitVec 32) (p : Fin 64) (k : Fin 4) :
    adjOf (F := Ideal) mk ix (ix1 ⟨4 * p.val + k.val, by omega⟩)
      = if mk (ix2 p k) = 1 then ix (ix2 p k) else ix (ix2 (firstRow (F := Ideal) mk k) k) := by
  rw [adjOf_at]
  refine if_congr ?_ rfl rfl
  show Ideal.cmp .ogt (mk (ix2 p k)) (Ideal.ofBits .f32 0x00000000#32) = 1#1 ↔ _
  rw [Ideal.ofBits_zero_f32]
  rcases h01 (ix2 p k) with h | h <;> simp [h, Ideal.cmp]

end Entries

/-! ## One row's lanes -/

theorem gatRow_at (A : S256.Idx → BitVec 32) (R : ℕ → EReal) (c l : Fin 16) :
    gatRow (F := Ideal) R (idxVec A c.val) (ix1 l) = R (A (ix1 ⟨16 * c.val + l.val, by omega⟩)).toNat := by
  unfold gatRow idxVec
  exact congrArg (fun q : Fin 256 => R (A (ix1 q)).toNat) (Fin.ext (Nat.mod_eq_of_lt (by show 16 * c.val + l.val < 256; omega)))

theorem foldl_max_le {ι : Type} (f : ι → EReal) (b : EReal) : ∀ (l : List ι) (a : EReal),
    l.foldl (fun a c => max a (f c)) a ≤ b ↔ a ≤ b ∧ ∀ c ∈ l, f c ≤ b
  | [], a => by simp
  | c :: l, a => by
    rw [List.foldl_cons, foldl_max_le f b l, max_le_iff, List.forall_mem_cons, and_assoc]

/-- The sixteen lanes after the sixteen gathers. -/
def accPool (z : S16.Idx → EReal) (A : S256.Idx → BitVec 32) (R : ℕ → EReal) : S16.Idx → EReal := fun x =>
  ([0, 1, 2, 3, 4, 5, 6, 7, 8, 9, 10, 11, 12, 13, 14, 15] : List (Fin 16)).foldl
    (fun a c => max a (gatRow (F := Ideal) R (idxVec A c.val) x)) (z x)

theorem accPool_le (z : S16.Idx → EReal) (A : S256.Idx → BitVec 32) (R : ℕ → EReal) (l : Fin 16) (b : EReal) :
    accPool z A R (ix1 l) ≤ b ↔ z (ix1 l) ≤ b ∧ ∀ c : Fin 16, R (A (ix1 ⟨16 * c.val + l.val, by omega⟩)).toNat ≤ b := by
  have all : ∀ c : Fin 16, c ∈ ([0, 1, 2, 3, 4, 5, 6, 7, 8, 9, 10, 11, 12, 13, 14, 15] : List (Fin 16)) := by decide
  unfold accPool
  rw [foldl_max_le]
  refine and_congr_right fun _ => ⟨fun h c => ?_, fun h c _ => ?_⟩
  · exact (gatRow_at A R c l) ▸ h c (all c)
  · rw [gatRow_at]; exact h c

/-- Each lane with the one eight further. -/
def fold8 (v : S16.Idx → EReal) : S16.Idx → EReal :=
  maximumf (F := Ideal) (φ := .f32) v (concatenate S16 0
    [⟨S8, extractStridedSlice S8 ![8] v slices_S16_o8_S8⟩, ⟨S8, extractStridedSlice S8 ![0] v slices_S16_o0_S8⟩] concatenates_S8_S8_S16_d0)

/-- Each lane with the one four further. -/
def fold4 (v : S16.Idx → EReal) : S16.Idx → EReal :=
  maximumf (F := Ideal) (φ := .f32) v (concatenate S16 0
    [⟨S12, extractStridedSlice S12 ![4] v slices_S16_o4_S12⟩, ⟨S4, extractStridedSlice S4 ![0] v slices_S16_o0_S4⟩] concatenates_S12_S4_S16_d0)

theorem fold8_at (v : S16.Idx → EReal) (l : Fin 8) :
    fold8 v (ix1 ⟨l.val, by omega⟩) = max (v (ix1 ⟨l.val, by omega⟩)) (v (ix1 ⟨8 + l.val, by omega⟩)) := by
  refine congrArg (max (v (ix1 ⟨l.val, by omega⟩))) ?_
  exact (concatenate_pair_apply_left 0 _ _ concatenates_S8_S8_S16_d0 _ rfl (ix1 l) fun b => by match b with | ⟨0, _⟩ => rfl).trans
    (extractStridedSlice_apply _ _ _ _ _ fun a => by match a with | ⟨0, _⟩ => rfl)

theorem fold4_at (v : S16.Idx → EReal) (l : Fin 4) :
    fold4 v (ix1 ⟨l.val, by omega⟩) = max (v (ix1 ⟨l.val, by omega⟩)) (v (ix1 ⟨4 + l.val, by omega⟩)) := by
  refine congrArg (max (v (ix1 ⟨l.val, by omega⟩))) ?_
  exact (concatenate_pair_apply_left 0 _ _ concatenates_S12_S4_S16_d0 _ rfl (ix1 (⟨l.val, by omega⟩ : Fin 12)) fun b => by match b with | ⟨0, _⟩ => rfl).trans
    (extractStridedSlice_apply _ _ _ _ _ fun a => by match a with | ⟨0, _⟩ => rfl)

theorem rowPool_eq (z : S16.Idx → EReal) (A : S256.Idx → BitVec 32) (R : ℕ → EReal) :
    rowPool (F := Ideal) z A R = fold4 (fold8 (accPool z A R)) := rfl

/-- The kernel's element of output `k`: the lanes that are `k` beyond a multiple of four. -/
theorem rowPool_le (z : S16.Idx → EReal) (A : S256.Idx → BitVec 32) (R : ℕ → EReal) (k : Fin 4) (b : EReal) :
    (rowPool (F := Ideal) z A R (ix1 ⟨k.val, by omega⟩) : EReal) ≤ b
      ↔ ∀ q : Fin 4, accPool z A R (ix1 ⟨4 * q.val + k.val, by omega⟩) ≤ b := by
  have hk := k.isLt
  have e : ∀ (i j : ℕ) (hi : i < 16) (hj : j < 16), i = j → accPool z A R (ix1 ⟨i, hi⟩) = accPool z A R (ix1 ⟨j, hj⟩) := by
    rintro i _ hi hj rfl; rfl
  rw [rowPool_eq, fold4_at, fold8_at _ ⟨k.val, by omega⟩, fold8_at _ ⟨4 + k.val, by omega⟩]
  simp only [max_le_iff]
  constructor
  · rintro ⟨⟨h0, h8⟩, h4, h12⟩ q
    match q with
    | ⟨0, _⟩ => rw [e (4 * 0 + k.val) k.val _ (by omega) (by omega)]; exact h0
    | ⟨1, _⟩ => rw [e (4 * 1 + k.val) (4 + k.val) _ (by omega) (by omega)]; exact h4
    | ⟨2, _⟩ => rw [e (4 * 2 + k.val) (8 + k.val) _ (by omega) (by omega)]; exact h8
    | ⟨3, _⟩ => rw [e (4 * 3 + k.val) (8 + (4 + k.val)) _ (by omega) (by omega)]; exact h12
  · intro h
    refine ⟨⟨?_, ?_⟩, ?_, ?_⟩
    · rw [e _ (4 * 0 + k.val) _ (by omega) (by omega)]; exact h 0
    · rw [e _ (4 * 2 + k.val) _ (by omega) (by omega)]; exact h 2
    · rw [e _ (4 * 1 + k.val) _ (by omega) (by omega)]; exact h 1
    · rw [e _ (4 * 3 + k.val) _ (by omega) (by omega)]; exact h 3

end Cert.Proof.Pool

end
-- ==== Proof.Match.lean ====
/-
  The two results are the same array: each element of either is the least bound of the same 64 values.
-/
module

public import proofs.«01_k».proof.Proof.Frames
public import proofs.«01_k».proof.Proof.Value

@[expose] public section

noncomputable section

/-! ## The reference's element -/

namespace Cert.Proof.Ref

open Cert.ReferenceIdeal Cert.ReferenceIdeal.Gen
open Idealize.ShloMosaic Idealize.ShloMosaic.ValueIdx

/-- The reference's indices: a negative one counted from the end. -/
def wrapped (ix : S64x4.Idx → BitVec 32) : S64x4x1.Idx → BitVec 32 :=
  broadcastInDim S64x4x1 ![0, 1] bcast_S64x4_S64x4x1_0_1
    (select (cmpi .slt ix (broadcastInDim S64x4 ![] bcast_S_S64x4 (constantI S_ 32 0#32)))
      (addi ix (broadcastInDim S64x4 ![] bcast_S_S64x4 (constantI S_ 32 256#32))) ix)

/-- The selected features, each by its weight. -/
def weighted (x : S32x2048x256.Idx → EReal) (ix : S64x4.Idx → BitVec 32) (mk : S64x4.Idx → EReal) : S32x2048x64x4.Idx → EReal :=
  mulf (F := Ideal) (φ := .f32) (Host.gather gather_S32x2048x256_S64x4x1_S32x2048x64x4_01_2_n_n_2_2_3220481 x (wrapped ix))
    (broadcastInDim S32x2048x64x4 ![0, 1, 2, 3] bcast_S1x1x64x4_S32x2048x64x4_0_1_2_3
      (broadcastInDim S1x1x64x4 ![2, 3] bcast_S64x4_S1x1x64x4_2_3 mk))

/-- The reference's result. -/
def refOut (x : S32x2048x256.Idx → EReal) (ix : S64x4.Idx → BitVec 32) (mk : S64x4.Idx → EReal) : S32x2048x4.Idx → EReal :=
  Host.reduce (FloatOps.maximumf (F := Ideal) (φ := .f32)) (weighted x ix mk) (constant (F := Ideal) S_ .f32 0xFF800000#32)
    reducesTo_S32x2048x64x4_S32x2048x4_d2 h_S_

theorem wrapped_at (ix : S64x4.Idx → BitVec 32) (p : Fin 64) (k : Fin 4) (h : (ix (ix2 p k)).toNat < 256) :
    wrapped ix (ix3 p k 0) = ix (ix2 p k) := by
  unfold wrapped
  rw [broadcastInDim_apply _ _ _ _ (ix2 p k) fun a => by match a with | ⟨0, _⟩ => rfl | ⟨1, _⟩ => rfl]
  have h : ¬ IntOp.cmpi .slt (ix (ix2 p k)) 0#32 = 1#1 := by
    rw [StableHlo.Predicate.slt_iff_toNat (by omega) (by decide)]
    simp
  exact if_neg h

theorem gather_at (x : S32x2048x256.Idx → EReal) (v : S64x4x1.Idx → BitVec 32) (b : Fin 32) (s : Fin 2048) (p : Fin 64) (k : Fin 4)
    (c : Fin 256) (hc : (v (ix3 p k 0)).toNat = c.val) :
    Host.gather gather_S32x2048x256_S64x4x1_S32x2048x64x4_01_2_n_n_2_2_3220481 x v (ix4 b s p k) = x (ix3 b s c) := by
  unfold Host.gather
  refine congrArg x (funext fun a => ?_)
  match a with
  | ⟨0, _⟩ => exact Fin.ext (show 0 + 0 + b.val = b.val by omega)
  | ⟨1, _⟩ => exact Fin.ext (show 0 + 0 + s.val = s.val by omega)
  | ⟨2, _⟩ =>
    refine Fin.ext ?_
    have e : gather_S32x2048x256_S64x4x1_S32x2048x64x4_01_2_n_n_2_2_3220481.siIdx (ix4 b s p k) ⟨0, by decide⟩ = ix3 p k 0 := funext fun b => by
      match b with
      | ⟨0, _⟩ => rfl
      | ⟨1, _⟩ => rfl
      | ⟨2, _⟩ => rfl
    show min (v (gather_S32x2048x256_S64x4x1_S32x2048x64x4_01_2_n_n_2_2_3220481.siIdx (ix4 b s p k) ⟨0, _⟩)).toInt.toNat (256 - 1) + 0 + 0 = c.val
    have hp := c.isLt
    rw [e, StableHlo.Predicate.toInt_eq_toNat_of_lt (by omega)]
    simp only [Int.toNat_natCast]
    omega

theorem weighted_at (x : S32x2048x256.Idx → EReal) (ix : S64x4.Idx → BitVec 32) (mk : S64x4.Idx → EReal) (b : Fin 32) (s : Fin 2048)
    (p : Fin 64) (k : Fin 4) (h : (ix (ix2 p k)).toNat < 256) :
    weighted x ix mk (ix4 b s p k) = x (ix3 b s ⟨(ix (ix2 p k)).toNat, h⟩) * mk (ix2 p k) := by
  have hm : broadcastInDim S32x2048x64x4 ![0, 1, 2, 3] bcast_S1x1x64x4_S32x2048x64x4_0_1_2_3
      (broadcastInDim S1x1x64x4 ![2, 3] bcast_S64x4_S1x1x64x4_2_3 mk) (ix4 b s p k) = mk (ix2 p k) := by
    rw [broadcastInDim_apply _ _ _ _ (ix4 0 0 p k) fun a => by match a with | ⟨0, _⟩ => rfl | ⟨1, _⟩ => rfl | ⟨2, _⟩ => rfl | ⟨3, _⟩ => rfl]
    exact broadcastInDim_apply _ _ _ _ (ix2 p k) fun a => by match a with | ⟨0, _⟩ => rfl | ⟨1, _⟩ => rfl
  have hg := gather_at x (wrapped ix) b s p k ⟨(ix (ix2 p k)).toNat, h⟩ (by rw [wrapped_at ix p k h])
  show Host.gather gather_S32x2048x256_S64x4x1_S32x2048x64x4_01_2_n_n_2_2_3220481 x (wrapped ix) (ix4 b s p k) * _ = _
  rw [hg, hm]

theorem refOut_le (x : S32x2048x256.Idx → EReal) (ix : S64x4.Idx → BitVec 32) (mk : S64x4.Idx → EReal) (b : Fin 32) (s : Fin 2048)
    (k : Fin 4) (t : EReal) :
    refOut x ix mk (ix3 b s k) ≤ t ↔ ∀ p : Fin 64, weighted x ix mk (ix4 b s p k) ≤ t := by
  unfold refOut
  rw [Host.reduce_eq_foldl, show (FloatOps.maximumf (F := Ideal) (φ := .f32)) = fun a c : EReal => max a c from rfl]
  rw [Pool.foldl_max_le]
  have h0 : (constant (F := Ideal) S_ .f32 0xFF800000#32 (Shape.Idx.first h_S_) : EReal) ≤ t := by
    rw [show (constant (F := Ideal) S_ .f32 0xFF800000#32 (Shape.Idx.first h_S_) : EReal) = ⊥ from Pool.ofBits_bot]; exact bot_le
  constructor
  · rintro ⟨_, h⟩ p
    refine h _ (List.mem_filter.2 ⟨List.mem_map.2 ⟨S32x2048x64x4.rowMajor (ix4 b s p k), List.mem_finRange _, Equiv.symm_apply_apply _ _⟩, decide_eq_true ?_⟩)
    refine funext fun a => ?_
    match a with
    | ⟨0, _⟩ => exact Fin.ext (Shape.ReducesTo.drop_apply_val_of_eq reducesTo_S32x2048x64x4_S32x2048x4_d2 (ix4 b s p k) 0 0)
    | ⟨1, _⟩ => exact Fin.ext (Shape.ReducesTo.drop_apply_val_of_eq reducesTo_S32x2048x64x4_S32x2048x4_d2 (ix4 b s p k) 1 1)
    | ⟨2, _⟩ => exact Fin.ext (Shape.ReducesTo.drop_apply_val_of_eq reducesTo_S32x2048x64x4_S32x2048x4_d2 (ix4 b s p k) 2 3)
  · intro h
    refine ⟨h0, fun i hi => ?_⟩
    have hd := of_decide_eq_true (List.mem_filter.1 hi).2
    have e0 : (i 0 : Fin 32) = b := Fin.ext ((Shape.ReducesTo.drop_apply_val_of_eq reducesTo_S32x2048x64x4_S32x2048x4_d2 i 0 0).symm.trans (congrArg Fin.val (congrFun hd 0)))
    have e1 : (i 1 : Fin 2048) = s := Fin.ext ((Shape.ReducesTo.drop_apply_val_of_eq reducesTo_S32x2048x64x4_S32x2048x4_d2 i 1 1).symm.trans (congrArg Fin.val (congrFun hd 1)))
    have e3 : (i 3 : Fin 4) = k := Fin.ext ((Shape.ReducesTo.drop_apply_val_of_eq reducesTo_S32x2048x64x4_S32x2048x4_d2 i 2 3).symm.trans (congrArg Fin.val (congrFun hd 2)))
    have e : ix4 b s (i 2 : Fin 64) k = i := by
      rw [← e0, ← e1, ← e3]
      exact (eq_ix4 (n0 := 32) (n1 := 2048) (n2 := 64) (n3 := 4) i).symm
    exact (congrArg (weighted x ix mk) e) ▸ h (i 2 : Fin 64)

end Cert.Proof.Ref

/-! ## The kernel's element -/

namespace Cert.Proof.Pool

open Cert.KernelIdeal Cert.KernelIdeal.Gen
open Idealize.ShloMosaic Idealize.ShloMosaic.ValueIdx

variable (x : S32x2048x256.Idx → EReal) (ix : S64x4.Idx → BitVec 32) (mk : S64x4.Idx → EReal)

theorem xLine_at (b : Fin 32) (s : Fin 2048) (c : ℕ) (hc : c < 256) :
    xLine (F := Ideal) (rowsOf (F := Ideal) x) (2048 * b.val + s.val) c = x (ix3 b s ⟨c, hc⟩) := by
  unfold xLine rowsOf
  refine shapeCast_apply _ _ _ _ ?_
  rw [Shape.rowMajor_val_two, Shape.rowMajor_val_three]
  show (b.val * 2048 + s.val) * 256 + c = (2048 * b.val + s.val) % 65536 * 256 + c % 256
  omega

theorem kernelOut_at (b : Fin 32) (s : Fin 2048) (k : Fin 4) :
    kernelOut (F := Ideal) x ix mk (ix3 b s k)
      = rowPool (F := Ideal) (floorOf (F := Ideal) mk) (adjOf (F := Ideal) mk ix) (xLine (F := Ideal) (rowsOf (F := Ideal) x) (2048 * b.val + s.val))
          (ix1 ⟨k.val, by omega⟩) := by
  have hk := k.isLt
  unfold kernelOut
  rw [shapeCast_apply _ _ _ (ix1 (⟨4 * (2048 * b.val + s.val) + k.val, by omega⟩ : Fin 262144)) (by
    rw [Shape.rowMajor_val_one, Shape.rowMajor_val_three]
    show 4 * (2048 * b.val + s.val) + k.val = (b.val * 2048 + s.val) * 4 + k.val
    omega)]
  have h1 : (4 * (2048 * b.val + s.val) + k.val) / 4 = 2048 * b.val + s.val := by omega
  have h2 : (4 * (2048 * b.val + s.val) + k.val) % 4 = k.val := by omega
  exact (congrArg (fun r : ℕ => rowPool (F := Ideal) (floorOf (F := Ideal) mk) (adjOf (F := Ideal) mk ix) (xLine (F := Ideal) (rowsOf (F := Ideal) x) r)
    (ix1 ⟨(4 * (2048 * b.val + s.val) + k.val) % 4, by omega⟩)) h1).trans
    (congrArg (fun q : Fin 16 => rowPool (F := Ideal) (floorOf (F := Ideal) mk) (adjOf (F := Ideal) mk ix)
      (xLine (F := Ideal) (rowsOf (F := Ideal) x) (2048 * b.val + s.val)) (ix1 q)) (Fin.ext h2))

/-- A bound of the kernel's element bounds zero, if some entry of the output is dead, and the features its table names. -/
theorem kernelOut_le (hix : ∀ i, (ix i).toNat < 256) (b : Fin 32) (s : Fin 2048) (k : Fin 4) (t : EReal) :
    (kernelOut (F := Ideal) x ix mk (ix3 b s k) : EReal) ≤ t
      ↔ ∀ p : Fin 64, (mk (ix2 p k) = 0 → 0 ≤ t)
          ∧ x (ix3 b s ⟨(adjOf (F := Ideal) mk ix (ix1 ⟨4 * p.val + k.val, by omega⟩)).toNat, adjOf_lt (F := Ideal) mk ix hix _⟩) ≤ t := by
  have hk := k.isLt
  rw [kernelOut_at, rowPool_le]
  have hx : ∀ (c : Fin 16) (q : Fin 4), xLine (F := Ideal) (rowsOf (F := Ideal) x) (2048 * b.val + s.val)
        (adjOf (F := Ideal) mk ix (ix1 ⟨16 * c.val + (4 * q.val + k.val), by omega⟩)).toNat
      = x (ix3 b s ⟨(adjOf (F := Ideal) mk ix (ix1 ⟨4 * (4 * c.val + q.val) + k.val, by omega⟩)).toNat, adjOf_lt (F := Ideal) mk ix hix _⟩) := fun c q => by
    rw [xLine_at x b s _ (adjOf_lt (F := Ideal) mk ix hix _)]
    have e : (⟨16 * c.val + (4 * q.val + k.val), by omega⟩ : Fin 256) = ⟨4 * (4 * c.val + q.val) + k.val, by omega⟩ := Fin.ext (by simp only; omega)
    simp only [e]
  have hm : ∀ (c : Fin 16) (q : Fin 4), mk (ix2 (⟨4 * c.val + (4 * q.val + k.val) / 4, by omega⟩ : Fin 64) (⟨(4 * q.val + k.val) % 4, by omega⟩ : Fin 4))
      = mk (ix2 (⟨4 * c.val + q.val, by omega⟩ : Fin 64) k) := fun c q => by
    have e1 : (⟨4 * c.val + (4 * q.val + k.val) / 4, by omega⟩ : Fin 64) = ⟨4 * c.val + q.val, by omega⟩ := Fin.ext (by simp only; omega)
    have e2 : (⟨(4 * q.val + k.val) % 4, by omega⟩ : Fin 4) = k := Fin.ext (by simp only; omega)
    rw [e1, e2]
  constructor
  · intro h p
    have e : p = ⟨4 * ((⟨p.val / 4, by omega⟩ : Fin 16)).val + ((⟨p.val % 4, by omega⟩ : Fin 4)).val, by simp only; omega⟩ := Fin.ext (by simp only; omega)
    have h := (accPool_le _ _ _ _ t).1 (h ⟨p.val % 4, by omega⟩)
    refine ⟨fun hp => (floorOf_le mk _ t).1 h.1 ⟨p.val / 4, by omega⟩ ?_, ?_⟩
    · rw [hm, ← e]; exact hp
    · have h2 := h.2 ⟨p.val / 4, by omega⟩
      rw [hx] at h2
      have e' : 4 * (4 * (p.val / 4) + p.val % 4) + k.val = 4 * p.val + k.val := by omega
      simp only [e'] at h2
      exact h2
  · intro h q
    refine (accPool_le _ _ _ _ t).2 ⟨(floorOf_le mk _ t).2 fun c hc => ?_, fun c => ?_⟩
    · rw [hm] at hc
      exact (h _).1 hc
    · rw [hx]
      exact (h ⟨4 * c.val + q.val, by omega⟩).2

/-- Zero or one as weights, a one for every output: the kernel's result is the reference's. -/
theorem kernelOut_eq (hix : ∀ i, (ix i).toNat < 256) (h01 : ∀ i, mk i = 0 ∨ mk i = 1) (h1 : ∀ k : Fin 4, ∃ p : Fin 64, mk (ix2 p k) = 1) :
    kernelOut (F := Ideal) x ix mk = Ref.refOut x ix mk := by
  funext j
  rw [eq_ix3 (n0 := 32) (n1 := 2048) (n2 := 4) j]
  generalize (j 0 : Fin 32) = b
  generalize (j 1 : Fin 2048) = s
  generalize (j 2 : Fin 4) = k
  refine eq_of_forall_ge_iff fun t => (kernelOut_le x ix mk hix b s k t).trans (Iff.trans ?_ (Ref.refOut_le x ix mk b s k t).symm)
  have live : ∀ p : Fin 64, mk (ix2 p k) = 1 → Ref.weighted x ix mk (ix4 b s p k) = x (ix3 b s ⟨(ix (ix2 p k)).toNat, hix _⟩) := fun p hp => by
    rw [Ref.weighted_at x ix mk b s p k (hix _), hp, mul_one]
  have dead : ∀ p : Fin 64, mk (ix2 p k) = 0 → Ref.weighted x ix mk (ix4 b s p k) = 0 := fun p hp => by
    rw [Ref.weighted_at x ix mk b s p k (hix _), hp, mul_zero]
  have hl := firstRow_live mk k h01 (h1 k)
  constructor
  · intro h p
    rcases h01 (ix2 p k) with hp | hp
    · rw [dead p hp]; exact (h p).1 hp
    · rw [live p hp]
      have h2 := (h p).2
      simp only [adjOf_entry mk h01 ix p k, if_pos hp] at h2
      exact h2
  · intro h p
    refine ⟨fun hp => dead p hp ▸ h p, ?_⟩
    rcases h01 (ix2 p k) with hp | hp
    · have hn : ¬ mk (ix2 p k) = 1 := by rw [hp]; exact zero_ne_one
      simp only [adjOf_entry mk h01 ix p k, if_neg hn]
      exact live _ hl ▸ h _
    · simp only [adjOf_entry mk h01 ix p k, if_pos hp]
      exact live p hp ▸ h p

end Cert.Proof.Pool

/-! ## The claim -/

namespace Cert.Proof

open Idealize.ShloMosaic Idealize.SL.Sem

theorem pool_eq (x : Cert.KernelIdeal.S32x2048x256.Idx → EReal) (ix : Cert.KernelIdeal.S64x4.Idx → BitVec 32) (mk : Cert.KernelIdeal.S64x4.Idx → EReal)
    (h : Cert.Pre_zero_one.fn (F := Ideal) x ix mk = fun _ => 1#1) : Pool.kernelOut (F := Ideal) x ix mk = Ref.refOut x ix mk := by
  obtain ⟨hix, h01, h1⟩ := Pool.zero_one_at (F := Ideal) x ix mk h
  have eq0 : ∀ v : EReal, FloatOps.cmpf (F := Ideal) (φ := .f32) .oeq v (FloatOps.ofBits .f32 0x00000000#32) = 1#1 → v = 0 := fun v hv => by
    have hv : Ideal.cmp .oeq v (Ideal.ofBits .f32 0x00000000#32) = 1#1 := hv
    rw [Ideal.ofBits_zero_f32] at hv
    simpa [Ideal.cmp, StableHlo.Predicate.ofBool_eq_one_iff] using hv
  have eq1 : ∀ v : EReal, FloatOps.cmpf (F := Ideal) (φ := .f32) .oeq v (FloatOps.ofBits .f32 0x3F800000#32) = 1#1 → v = 1 := fun v hv => by
    have hv : Ideal.cmp .oeq v (Ideal.ofBits .f32 0x3F800000#32) = 1#1 := hv
    rw [Ideal.ofBits_one_f32] at hv
    simpa [Ideal.cmp, StableHlo.Predicate.ofBool_eq_one_iff] using hv
  exact Pool.kernelOut_eq x ix mk hix (fun i => (h01 i).imp (eq0 _) (eq1 _)) fun k => (h1 k).imp fun p hp => eq1 _ hp

theorem algebraic : Cert.algebraic_KernelIdeal_ReferenceIdeal_pre_zero_one := by
  intro m ρ m' ρ' hpre hagree
  refine ⟨fun c => Pool.kernelOut (F := Ideal) (m (Pool.arg0 c)) (m (Pool.arg1 c)) (m (Pool.arg2 c)),
    (θ_run Cert.KernelIdeal.defs _ _).mono (fun _ h => h.1)
      (Pool.run_main (F := Ideal) m ρ (Pool.tabOK_of m fun c => (Pool.zero_one_at _ _ _ (hpre c)).1)), ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2]
  exact (pool_eq _ _ _ (hpre c)).symm

end Cert.Proof

end
-- ==== Proof.lean ====
/-
  The certificate's claim, put together: the runs of the three programs (Frames) and the equality of the
  kernel's result with the reference's (Match).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_zero_one
public import proofs.«01_k».proof.Proof.Match

@[expose] public section

noncomputable section

namespace Cert.Proof

/-- Every claim of the certificate: the frames of the kernel (over bits and over the extended reals) and of
    the reference, the idealization without rewrites, and the equality of the two results. -/
theorem claim : Cert.Claim :=
  ⟨Cert.Kernel.Gen.facts, Cert.KernelIdeal.Gen.facts, Cert.ReferenceIdeal.Gen.facts,
    Cert.Pre_in_range.Gen.facts, Cert.Pre_zero_one.Gen.facts,
    frame_kernel, frame_kernelIdeal, frame_kernelIdeal_zero_one, frame_reference,
    frame_reference_zero_one, trivial, algebraic⟩

end Cert.Proof

end
